-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨3, ![8, 512, 512]⟩ ⟨3, ![8, 4096, 512]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨3, ![8, 512, 16]⟩ ⟨3, ![8, 4096, 16]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![8, 512, 16]⟩ ⟨3, ![8, 4096, 16]⟩ 1 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v4_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![8, 512, 512]⟩ ⟨3, ![8, 4096, 512]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v4_7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_bounded_KernelIdeal : Cert.Pre_bounded_KernelIdeal.Facts) (hPre_bounded_ReferenceIdeal : Cert.Pre_bounded_ReferenceIdeal.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ preserves_Kernel_KernelIdeal
    ∧ algebraic_KernelIdeal_ReferenceIdeal_pre_bounded_KernelIdeal (hKernelIdeal := hKernelIdeal) (hReferenceIdeal := hReferenceIdeal) (hPre_bounded_KernelIdeal := hPre_bounded_KernelIdeal)
-- ==== Pre_bounded_KernelIdeal.lean ====
abbrev S8x512x512 : Shape := ⟨3, ![8, 512, 512]⟩
abbrev S512x16 : Shape := ⟨2, ![512, 16]⟩
abbrev S8x512x16 : Shape := ⟨3, ![8, 512, 16]⟩
abbrev S_ : Shape := ⟨0, ![]⟩

class Facts : Prop where
  bcast_S_S8x512x512 : S_.BroadcastsInDim S8x512x512 (![] : Fin 0 → Fin S8x512x512.rank)
  reducesTo_S8x512x512_S_d0_1_2 : S8x512x512.ReducesTo [0, 1, 2] S_
  h_S_ : 0 < S_.numel
  bcast_S_S512x16 : S_.BroadcastsInDim S512x16 (![] : Fin 0 → Fin S512x16.rank)
  reducesTo_S512x16_S_d0_1 : S512x16.ReducesTo [0, 1] S_
  bcast_S_S8x512x16 : S_.BroadcastsInDim S8x512x16 (![] : Fin 0 → Fin S8x512x16.rank)
  reducesTo_S8x512x16_S_d0_1_2 : S8x512x16.ReducesTo [0, 1, 2] S_

variable [Facts]

def fn_part1 {F : FTy → Type} [FloatOps F] (main_v12 : IVec S_ 1) (main_v15 : IVec S8x512x16 1) (main_c_5 : IVec S_ 1) : IVec S_ 1 :=
  let main_v16 : IVec S_ 1 := (fun x v => Host.reduce IntOp.andi x v reducesTo_S8x512x16_S_d0_1_2 h_S_) main_v15 main_c_5
  let main_v17 : IVec S_ 1 := andi main_v12 main_v16
  main_v17

def fn {F : FTy → Type} [FloatOps F] (main_arg0 : FVec F S8x512x512 .f32) (main_arg1 : FVec F S512x16 .f32) (main_arg2 : FVec F S8x512x16 .f32) (main_arg3 : FVec F S8x512x16 .f32) : IVec S_ 1 :=
  let main_v0 : FVec F S8x512x512 .f32 := Host.absf main_arg0
  let main_cst : FVec F S_ .f32 := constant S_ .f32 0x7F800000#32
  let main_v1 : FVec F S8x512x512 .f32 := broadcastInDim S8x512x512 ![] bcast_S_S8x512x512 main_cst
  let main_v2 : IVec S8x512x512 1 := cmpf .olt main_v0 main_v1
  let main_c : IVec S_ 1 := constantI S_ 1 1#1
  let main_v3 : IVec S_ 1 := (fun x v => Host.reduce IntOp.andi x v reducesTo_S8x512x512_S_d0_1_2 h_S_) main_v2 main_c
  let main_cst_0 : FVec F S_ .f32 := constant S_ .f32 0x7F800000#32
  let main_v4 : FVec F S512x16 .f32 := broadcastInDim S512x16 ![] bcast_S_S512x16 main_cst_0
  let main_v5 : IVec S512x16 1 := cmpf .olt main_arg1 main_v4
  let main_c_1 : IVec S_ 1 := constantI S_ 1 1#1
  let main_v6 : IVec S_ 1 := (fun x v => Host.reduce IntOp.andi x v reducesTo_S512x16_S_d0_1 h_S_) main_v5 main_c_1
  let main_v7 : IVec S_ 1 := andi main_v3 main_v6
  let main_v8 : FVec F S8x512x16 .f32 := Host.absf main_arg2
  let main_cst_2 : FVec F S_ .f32 := constant S_ .f32 0x7F800000#32
  let main_v9 : FVec F S8x512x16 .f32 := broadcastInDim S8x512x16 ![] bcast_S_S8x512x16 main_cst_2
  let main_v10 : IVec S8x512x16 1 := cmpf .olt main_v8 main_v9
  let main_c_3 : IVec S_ 1 := constantI S_ 1 1#1
  let main_v11 : IVec S_ 1 := (fun x v => Host.reduce IntOp.andi x v reducesTo_S8x512x16_S_d0_1_2 h_S_) main_v10 main_c_3
  let main_v12 : IVec S_ 1 := andi main_v7 main_v11
  let main_v13 : FVec F S8x512x16 .f32 := Host.absf main_arg3
  let main_cst_4 : FVec F S_ .f32 := constant S_ .f32 0x7F800000#32
  let main_v14 : FVec F S8x512x16 .f32 := broadcastInDim S8x512x16 ![] bcast_S_S8x512x16 main_cst_4
  let main_v15 : IVec S8x512x16 1 := cmpf .olt main_v13 main_v14
  let main_c_5 : IVec S_ 1 := constantI S_ 1 1#1
  fn_part1 (F := F) main_v12 main_v15 main_c_5
-- ==== Pre_bounded_ReferenceIdeal.lean ====
abbrev S8x4096x512 : Shape := ⟨3, ![8, 4096, 512]⟩
abbrev S512x16 : Shape := ⟨2, ![512, 16]⟩
abbrev S8x4096x16 : Shape := ⟨3, ![8, 4096, 16]⟩
abbrev S_ : Shape := ⟨0, ![]⟩

class Facts : Prop where
  bcast_S_S8x4096x512 : S_.BroadcastsInDim S8x4096x512 (![] : Fin 0 → Fin S8x4096x512.rank)
  reducesTo_S8x4096x512_S_d0_1_2 : S8x4096x512.ReducesTo [0, 1, 2] S_
  h_S_ : 0 < S_.numel
  bcast_S_S512x16 : S_.BroadcastsInDim S512x16 (![] : Fin 0 → Fin S512x16.rank)
  reducesTo_S512x16_S_d0_1 : S512x16.ReducesTo [0, 1] S_
  bcast_S_S8x4096x16 : S_.BroadcastsInDim S8x4096x16 (![] : Fin 0 → Fin S8x4096x16.rank)
  reducesTo_S8x4096x16_S_d0_1_2 : S8x4096x16.ReducesTo [0, 1, 2] S_

variable [Facts]

def fn_part1 {F : FTy → Type} [FloatOps F] (main_v12 : IVec S_ 1) (main_v15 : IVec S8x4096x16 1) (main_c_5 : IVec S_ 1) : IVec S_ 1 :=
  let main_v16 : IVec S_ 1 := (fun x v => Host.reduce IntOp.andi x v reducesTo_S8x4096x16_S_d0_1_2 h_S_) main_v15 main_c_5
  let main_v17 : IVec S_ 1 := andi main_v12 main_v16
  main_v17

def fn {F : FTy → Type} [FloatOps F] (main_arg0 : FVec F S8x4096x512 .f32) (main_arg1 : FVec F S512x16 .f32) (main_arg2 : FVec F S8x4096x16 .f32) (main_arg3 : FVec F S8x4096x16 .f32) : IVec S_ 1 :=
  let main_v0 : FVec F S8x4096x512 .f32 := Host.absf main_arg0
  let main_cst : FVec F S_ .f32 := constant S_ .f32 0x7F800000#32
  let main_v1 : FVec F S8x4096x512 .f32 := broadcastInDim S8x4096x512 ![] bcast_S_S8x4096x512 main_cst
  let main_v2 : IVec S8x4096x512 1 := cmpf .olt main_v0 main_v1
  let main_c : IVec S_ 1 := constantI S_ 1 1#1
  let main_v3 : IVec S_ 1 := (fun x v => Host.reduce IntOp.andi x v reducesTo_S8x4096x512_S_d0_1_2 h_S_) main_v2 main_c
  let main_cst_0 : FVec F S_ .f32 := constant S_ .f32 0x7F800000#32
  let main_v4 : FVec F S512x16 .f32 := broadcastInDim S512x16 ![] bcast_S_S512x16 main_cst_0
  let main_v5 : IVec S512x16 1 := cmpf .olt main_arg1 main_v4
  let main_c_1 : IVec S_ 1 := constantI S_ 1 1#1
  let main_v6 : IVec S_ 1 := (fun x v => Host.reduce IntOp.andi x v reducesTo_S512x16_S_d0_1 h_S_) main_v5 main_c_1
  let main_v7 : IVec S_ 1 := andi main_v3 main_v6
  let main_v8 : FVec F S8x4096x16 .f32 := Host.absf main_arg2
  let main_cst_2 : FVec F S_ .f32 := constant S_ .f32 0x7F800000#32
  let main_v9 : FVec F S8x4096x16 .f32 := broadcastInDim S8x4096x16 ![] bcast_S_S8x4096x16 main_cst_2
  let main_v10 : IVec S8x4096x16 1 := cmpf .olt main_v8 main_v9
  let main_c_3 : IVec S_ 1 := constantI S_ 1 1#1
  let main_v11 : IVec S_ 1 := (fun x v => Host.reduce IntOp.andi x v reducesTo_S8x4096x16_S_d0_1_2 h_S_) main_v10 main_c_3
  let main_v12 : IVec S_ 1 := andi main_v7 main_v11
  let main_v13 : FVec F S8x4096x16 .f32 := Host.absf main_arg3
  let main_cst_4 : FVec F S_ .f32 := constant S_ .f32 0x7F800000#32
  let main_v14 : FVec F S8x4096x16 .f32 := broadcastInDim S8x4096x16 ![] bcast_S_S8x4096x16 main_cst_4
  let main_v15 : IVec S8x4096x16 1 := cmpf .olt main_v13 main_v14
  let main_c_5 : IVec S_ 1 := constantI S_ 1 1#1
  fn_part1 (F := F) main_v12 main_v15 main_c_5
-- ==== Kernel.lean ====
abbrev S8x512x512 : Shape := ⟨3, ![8, 512, 512]⟩
abbrev S512x16 : Shape := ⟨2, ![512, 16]⟩
abbrev S8x512x16 : Shape := ⟨3, ![8, 512, 16]⟩
abbrev S8x32x16x512 : Shape := ⟨4, ![8, 32, 16, 512]⟩
abbrev S8x32x16x16 : Shape := ⟨4, ![8, 32, 16, 16]⟩
abbrev S8x16x16x512 : Shape := ⟨4, ![8, 16, 16, 512]⟩
abbrev S8x16x512 : Shape := ⟨3, ![8, 16, 512]⟩
abbrev S_ : Shape := ⟨0, ![]⟩
abbrev S16x512 : Shape := ⟨2, ![16, 512]⟩
abbrev S8x32x512 : Shape := ⟨3, ![8, 32, 512]⟩
abbrev S8x32x1x512 : Shape := ⟨4, ![8, 32, 1, 512]⟩
abbrev S8x32x16 : Shape := ⟨3, ![8, 32, 16]⟩
abbrev S8x32x1x16 : Shape := ⟨4, ![8, 32, 1, 16]⟩
abbrev S8x1x16x512 : Shape := ⟨4, ![8, 1, 16, 512]⟩
abbrev S8x1x16x16 : Shape := ⟨4, ![8, 1, 16, 16]⟩
abbrev S8x16x16 : Shape := ⟨3, ![8, 16, 16]⟩
abbrev S1x1x16x512 : Shape := ⟨4, ![1, 1, 16, 512]⟩
abbrev S8x16x1x512 : Shape := ⟨4, ![8, 16, 1, 512]⟩
abbrev S8x16x16x1 : Shape := ⟨4, ![8, 16, 16, 1]⟩
abbrev S1x16x512 : Shape := ⟨3, ![1, 16, 512]⟩
abbrev S16x16x512 : Shape := ⟨3, ![16, 16, 512]⟩
abbrev S1x16x16x512 : Shape := ⟨4, ![1, 16, 16, 512]⟩

abbrev nBuf : Space → Nat
  | .hbm => 5
  | .vmem => 14
  | .smem => 0
  | _ => 0

abbrev bufTy : (tb : Table) → Fin (tcTables nBuf tb) → BufTy
  | .hbm, ⟨0, _⟩ => ⟨S8x512x512, .f32⟩
  | .hbm, ⟨1, _⟩ => ⟨S512x16, .f32⟩
  | .hbm, ⟨2, _⟩ => ⟨S8x512x16, .f32⟩
  | .hbm, ⟨3, _⟩ => ⟨S8x512x16, .f32⟩
  | .hbm, ⟨4, _⟩ => ⟨S8x512x512, .f32⟩
  | .local _ .vmem, ⟨0, _⟩ => ⟨S8x512x512, .f32⟩
  | .local _ .vmem, ⟨1, _⟩ => ⟨S512x16, .f32⟩
  | .local _ .vmem, ⟨2, _⟩ => ⟨S8x512x16, .f32⟩
  | .local _ .vmem, ⟨3, _⟩ => ⟨S8x512x16, .f32⟩
  | .local _ .vmem, ⟨4, _⟩ => ⟨S8x512x512, .f32⟩
  | .local _ .vmem, ⟨5, _⟩ => ⟨S8x32x16x512, .f32⟩
  | .local _ .vmem, ⟨6, _⟩ => ⟨S8x32x16x16, .f32⟩
  | .local _ .vmem, ⟨7, _⟩ => ⟨S8x32x16x16, .f32⟩
  | .local _ .vmem, ⟨8, _⟩ => ⟨S8x32x16x512, .f32⟩
  | .local _ .vmem, ⟨9, _⟩ => ⟨S8x16x16x512, .f32⟩
  | .local _ .vmem, ⟨10, _⟩ => ⟨S8x16x16x512, .f32⟩
  | .local _ .vmem, ⟨11, _⟩ => ⟨S8x16x512, .f32⟩
  | .local _ .vmem, ⟨12, _⟩ => ⟨S8x16x512, .f32⟩
  | .local _ .vmem, ⟨13, _⟩ => ⟨S8x16x512, .f32⟩
  | _, _ => ⟨S8x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  (ofTc nBuf bufTy 1 7 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_scratch5 : Ref sig .tc := ⟨.vmem, 10, rfl⟩
abbrev cc0_scratch6 : Ref sig .tc := ⟨.vmem, 11, rfl⟩
abbrev cc0_scratch7 : Ref sig .tc := ⟨.vmem, 12, rfl⟩
abbrev cc0_scratch8 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
@[reducible] def k0_t1_loop : Scf.Loop 32 :=
  let c0_i32_333 : BitVec 32 := 0#32
  let c32_i32 : BitVec 32 := 32#32
  let v284 : BitVec 32 := Scalar.addi c0_i32_333 c32_i32
  let c1_i32_334 : BitVec 32 := 1#32
  ⟨c0_i32_333, v284, c1_i32_334⟩
def k0_off1 (k0_t1 : Fin k0_t1_loop.trips) : Fin 4 → Nat :=
  let c0_478 : Index := 0#32
  let c0_i32_333 : BitVec 32 := 0#32
  let c1_i32_334 : BitVec 32 := 1#32
  let arg16 : BitVec 32 := Scf.iv c0_i32_333 c1_i32_334 k0_t1
  let v371 : Index := Scalar.indexCast arg16
  let c0_479 : Index := 0#32
  let c0_480 : Index := 0#32
  ![0, v371.toNat, 0, 0]
def k0_off2 (k0_t1 : Fin k0_t1_loop.trips) : Fin 4 → Nat :=
  let c0_481 : Index := 0#32
  let c0_i32_333 : BitVec 32 := 0#32
  let c1_i32_334 : BitVec 32 := 1#32
  let arg16 : BitVec 32 := Scf.iv c0_i32_333 c1_i32_334 k0_t1
  let v374 : Index := Scalar.indexCast arg16
  let c0_482 : Index := 0#32
  let c0_483 : Index := 0#32
  ![0, v374.toNat, 0, 0]
@[reducible] def k0_t2_loop : Scf.Loop 32 :=
  let c0_i32_337 : BitVec 32 := 0#32
  let c16_i32 : BitVec 32 := 16#32
  let v286 : BitVec 32 := Scalar.addi c0_i32_337 c16_i32
  let c1_i32_338 : BitVec 32 := 1#32
  ⟨c0_i32_337, v286, c1_i32_338⟩
def k0_off3 (k0_t2 : Fin k0_t2_loop.trips) : Fin 4 → Nat :=
  let c0_478 : Index := 0#32
  let c0_i32_337 : BitVec 32 := 0#32
  let c1_i32_338 : BitVec 32 := 1#32
  let arg16 : BitVec 32 := Scf.iv c0_i32_337 c1_i32_338 k0_t2
  let v372 : Index := Scalar.indexCast arg16
  let c0_479 : Index := 0#32
  let c0_480 : Index := 0#32
  ![0, v372.toNat, 0, 0]
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v297 : BitVec 1 := Scalar.cmpi .slt v2 c7_i32
  let v298 : BitVec 32 := Scalar.extui v297
  let c0_i32_347 : BitVec 32 := 0#32
  let v299 : BitVec 1 := Scalar.cmpi .ne v298 c0_i32_347
  v299

def k0_dev3 (d0 : Dev nD) : Nat :=
  let c0_i32_491 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_490 : BitVec 32 := 1#32
  let v386 : BitVec 32 := Scalar.muli v24 c1_i32_490
  let v387 : BitVec 32 := Scalar.addi c0_i32_491 v386
  v387.toNat
@[reducible] def k0_t3_loop : Scf.Loop 32 :=
  let c0_i32_362 : BitVec 32 := 0#32
  let c32_i32_363 : BitVec 32 := 32#32
  let v322 : BitVec 32 := Scalar.addi c0_i32_362 c32_i32_363
  let c1_i32_364 : BitVec 32 := 1#32
  ⟨c0_i32_362, v322, c1_i32_364⟩
def k0_off4 (k0_t3 : Fin k0_t3_loop.trips) : Fin 4 → Nat :=
  let c0_486 : Index := 0#32
  let c0_i32_362 : BitVec 32 := 0#32
  let c1_i32_364 : BitVec 32 := 1#32
  let arg16 : BitVec 32 := Scf.iv c0_i32_362 c1_i32_364 k0_t3
  let v378 : Index := Scalar.indexCast arg16
  let c0_487 : Index := 0#32
  let c0_488 : Index := 0#32
  ![0, v378.toNat, 0, 0]
def k0_off5 (k0_t3 : Fin k0_t3_loop.trips) : Fin 4 → Nat :=
  let c0_490 : Index := 0#32
  let c0_i32_362 : BitVec 32 := 0#32
  let c1_i32_364 : BitVec 32 := 1#32
  let arg16 : BitVec 32 := Scf.iv c0_i32_362 c1_i32_364 k0_t3
  let v385 : Index := Scalar.indexCast arg16
  let c0_491 : Index := 0#32
  let c0_492 : Index := 0#32
  ![0, v385.toNat, 0, 0]
abbrev stage0_0 : Fin 1 → Memref sig .tc .vmem S8x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x512x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x512x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8x4096x512 : Shape := ⟨3, ![8, 4096, 512]⟩
abbrev S512x16 : Shape := ⟨2, ![512, 16]⟩
abbrev S8x4096x16 : Shape := ⟨3, ![8, 4096, 16]⟩
abbrev S1x512x16 : Shape := ⟨3, ![1, 512, 16]⟩
abbrev S_ : Shape := ⟨0, ![]⟩
abbrev S8x512x16 : Shape := ⟨3, ![8, 512, 16]⟩
abbrev S8x1x512 : Shape := ⟨3, ![8, 1, 512]⟩
abbrev S8x512 : Shape := ⟨2, ![8, 512]⟩
abbrev S8x1x16 : Shape := ⟨3, ![8, 1, 16]⟩
abbrev S8x16 : Shape := ⟨2, ![8, 16]⟩
abbrev S8x512x1 : Shape := ⟨3, ![8, 512, 1]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x512, .f32⟩
  | .hbm, ⟨1, _⟩ => ⟨S512x16, .f32⟩
  | .hbm, ⟨2, _⟩ => ⟨S8x4096x16, .f32⟩
  | .hbm, ⟨3, _⟩ => ⟨S8x4096x16, .f32⟩
  | .hbm, ⟨4, _⟩ => ⟨S512x16, .f32⟩
  | .hbm, ⟨5, _⟩ => ⟨S1x512x16, .f32⟩
  | .hbm, ⟨6, _⟩ => ⟨S_, .f32⟩
  | .hbm, ⟨7, _⟩ => ⟨S8x512x16, .f32⟩
  | .hbm, ⟨8, _⟩ => ⟨S_, .f32⟩
  | .hbm, ⟨9, _⟩ => ⟨S8x4096x512, .f32⟩
  | .hbm, ⟨10, _⟩ => ⟨S_, .i32⟩
  | .hbm, ⟨11, _⟩ => ⟨S_, .i32⟩
  | .hbm, ⟨12, _⟩ => ⟨S8x4096x512, .f32⟩
  | .hbm, ⟨13, _⟩ => ⟨S8x4096x16, .f32⟩
  | .hbm, ⟨14, _⟩ => ⟨S8x4096x16, .f32⟩
  | .hbm, ⟨15, _⟩ => ⟨S1x512x16, .f32⟩
  | .hbm, ⟨16, _⟩ => ⟨S_, .i32⟩
  | .hbm, ⟨17, _⟩ => ⟨S_, .i32⟩
  | .hbm, ⟨18, _⟩ => ⟨S8x512x16, .f32⟩
  | .hbm, ⟨19, _⟩ => ⟨S8x4096x512, .f32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S8x1x512, .f32⟩
  | .hbm, ⟨33, _⟩ => ⟨S8x512, .f32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S8x1x16, .f32⟩
  | .hbm, ⟨43, _⟩ => ⟨S8x16, .f32⟩
  | .hbm, ⟨44, _⟩ => ⟨S_, .i32⟩
  | .hbm, ⟨45, _⟩ => ⟨S_, .i1⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S8x1x16, .f32⟩
  | .hbm, ⟨53, _⟩ => ⟨S8x16, .f32⟩
  | .hbm, ⟨54, _⟩ => ⟨S8x512x16, .f32⟩
  | .hbm, ⟨55, _⟩ => ⟨S8x512x16, .f32⟩
  | .hbm, ⟨56, _⟩ => ⟨S8x512x1, .f32⟩
  | .hbm, ⟨57, _⟩ => ⟨S8x1x16, .f32⟩
  | .hbm, ⟨58, _⟩ => ⟨S8x512x16, .f32⟩
  | .hbm, ⟨59, _⟩ => ⟨S8x512x16, .f32⟩
  | .hbm, ⟨60, _⟩ => ⟨S8x512x16, .f32⟩
  | .hbm, ⟨61, _⟩ => ⟨S8x512x16, .f32⟩
  | .hbm, ⟨62, _⟩ => ⟨S8x1x16, .f32⟩
  | .hbm, ⟨63, _⟩ => ⟨S8x512x16, .f32⟩
  | .hbm, ⟨64, _⟩ => ⟨S8x512x16, .f32⟩
  | .hbm, ⟨65, _⟩ => ⟨S_, .f32⟩
  | .hbm, ⟨66, _⟩ => ⟨S8x512, .f32⟩
  | .hbm, ⟨67, _⟩ => ⟨S8x1x512, .f32⟩
  | .hbm, ⟨68, _⟩ => ⟨S_, .i32⟩
  | .hbm, ⟨69, _⟩ => ⟨S_, .i1⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S8x4096x512, .f32⟩
  | .hbm, ⟨77, _⟩ => ⟨S_, .i32⟩
  | .hbm, ⟨78, _⟩ => ⟨S_, .i32⟩
  | _, _ => ⟨S8x4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_c : Ref sig .tc := ⟨.hbm, 10, rfl⟩
abbrev main_c_1 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev main_v4_7 : Ref sig .tc := ⟨.hbm, 19, rfl⟩
abbrev main_while0c_c_9 : Ref sig .tc := ⟨.hbm, 20, rfl⟩
abbrev main_while0c_v5 : Ref sig .tc := ⟨.hbm, 21, rfl⟩
abbrev main_while0b_c_9 : Ref sig .tc := ⟨.hbm, 22, rfl⟩
abbrev main_while0b_v5 : Ref sig .tc := ⟨.hbm, 23, rfl⟩
abbrev main_while0b_call0_c : Ref sig .tc := ⟨.hbm, 24, rfl⟩
abbrev main_while0b_call0_v0 : Ref sig .tc := ⟨.hbm, 25, rfl⟩
abbrev main_while0b_call0_v1 : Ref sig .tc := ⟨.hbm, 26, rfl⟩
abbrev main_while0b_call0_c_0 : Ref sig .tc := ⟨.hbm, 27, rfl⟩
abbrev main_while0b_call0_v2 : Ref sig .tc := ⟨.hbm, 28, rfl⟩
abbrev main_while0b_call0_v3 : Ref sig .tc := ⟨.hbm, 29, rfl⟩
abbrev main_while0b_call0_c_1 : Ref sig .tc := ⟨.hbm, 30, rfl⟩
abbrev main_while0b_call0_c_2 : Ref sig .tc := ⟨.hbm, 31, rfl⟩
abbrev main_while0b_call0_v4 : Ref sig .tc := ⟨.hbm, 32, rfl⟩
abbrev main_while0b_v6 : Ref sig .tc := ⟨.hbm, 33, rfl⟩
abbrev main_while0b_call1_c : Ref sig .tc := ⟨.hbm, 34, rfl⟩
abbrev main_while0b_call1_v0 : Ref sig .tc := ⟨.hbm, 35, rfl⟩
abbrev main_while0b_call1_v1 : Ref sig .tc := ⟨.hbm, 36, rfl⟩
abbrev main_while0b_call1_c_0 : Ref sig .tc := ⟨.hbm, 37, rfl⟩
abbrev main_while0b_call1_v2 : Ref sig .tc := ⟨.hbm, 38, rfl⟩
abbrev main_while0b_call1_v3 : Ref sig .tc := ⟨.hbm, 39, rfl⟩
abbrev main_while0b_call1_c_1 : Ref sig .tc := ⟨.hbm, 40, rfl⟩
abbrev main_while0b_call1_c_2 : Ref sig .tc := ⟨.hbm, 41, rfl⟩
abbrev main_while0b_call1_v4 : Ref sig .tc := ⟨.hbm, 42, rfl⟩
abbrev main_while0b_v7 : Ref sig .tc := ⟨.hbm, 43, rfl⟩
abbrev main_while0b_call2_c : Ref sig .tc := ⟨.hbm, 44, rfl⟩
abbrev main_while0b_call2_v0 : Ref sig .tc := ⟨.hbm, 45, rfl⟩
abbrev main_while0b_call2_v1 : Ref sig .tc := ⟨.hbm, 46, rfl⟩
abbrev main_while0b_call2_c_0 : Ref sig .tc := ⟨.hbm, 47, rfl⟩
abbrev main_while0b_call2_v2 : Ref sig .tc := ⟨.hbm, 48, rfl⟩
abbrev main_while0b_call2_v3 : Ref sig .tc := ⟨.hbm, 49, rfl⟩
abbrev main_while0b_call2_c_1 : Ref sig .tc := ⟨.hbm, 50, rfl⟩
abbrev main_while0b_call2_c_2 : Ref sig .tc := ⟨.hbm, 51, rfl⟩
abbrev main_while0b_call2_v4 : Ref sig .tc := ⟨.hbm, 52, rfl⟩
abbrev main_while0b_v8 : Ref sig .tc := ⟨.hbm, 53, rfl⟩
abbrev main_while0b_v9 : Ref sig .tc := ⟨.hbm, 54, rfl⟩
abbrev main_while0b_v10 : Ref sig .tc := ⟨.hbm, 55, rfl⟩
abbrev main_while0b_v11 : Ref sig .tc := ⟨.hbm, 56, rfl⟩
abbrev main_while0b_v12 : Ref sig .tc := ⟨.hbm, 57, rfl⟩
abbrev main_while0b_v13 : Ref sig .tc := ⟨.hbm, 58, rfl⟩
abbrev main_while0b_v14 : Ref sig .tc := ⟨.hbm, 59, rfl⟩
abbrev main_while0b_v15 : Ref sig .tc := ⟨.hbm, 60, rfl⟩
abbrev main_while0b_v16 : Ref sig .tc := ⟨.hbm, 61, rfl⟩
abbrev main_while0b_v17 : Ref sig .tc := ⟨.hbm, 62, rfl⟩
abbrev main_while0b_v18 : Ref sig .tc := ⟨.hbm, 63, rfl⟩
abbrev main_while0b_v19 : Ref sig .tc := ⟨.hbm, 64, rfl⟩
abbrev main_while0b_cst_10 : Ref sig .tc := ⟨.hbm, 65, rfl⟩
abbrev main_while0b_v20 : Ref sig .tc := ⟨.hbm, 66, rfl⟩
abbrev main_while0b_call3_v0 : Ref sig .tc := ⟨.hbm, 67, rfl⟩
abbrev main_while0b_call3_c : Ref sig .tc := ⟨.hbm, 68, rfl⟩
abbrev main_while0b_call3_v1 : Ref sig .tc := ⟨.hbm, 69, rfl⟩
abbrev main_while0b_call3_v2 : Ref sig .tc := ⟨.hbm, 70, rfl⟩
abbrev main_while0b_call3_c_0 : Ref sig .tc := ⟨.hbm, 71, rfl⟩
abbrev main_while0b_call3_v3 : Ref sig .tc := ⟨.hbm, 72, rfl⟩
abbrev main_while0b_call3_v4 : Ref sig .tc := ⟨.hbm, 73, rfl⟩
abbrev main_while0b_call3_c_1 : Ref sig .tc := ⟨.hbm, 74, rfl⟩
abbrev main_while0b_call3_c_2 : Ref sig .tc := ⟨.hbm, 75, rfl⟩
abbrev main_while0b_v21 : Ref sig .tc := ⟨.hbm, 76, rfl⟩
abbrev main_while0b_c_11 : Ref sig .tc := ⟨.hbm, 77, rfl⟩
abbrev main_while0b_v22 : Ref sig .tc := ⟨.hbm, 78, rfl⟩

abbrev nD : Nat := 1
abbrev τ : Topo := Topo.v7x

variable {F : FTy → Type} [FloatOps F]

abbrev main_while0_count : Scf.Loop 32 := ⟨0#32, 4096#32, 1#32⟩
-- ==== Proof.Ideal.Values.lean ====
/-
  WHAT THE SCAN KERNEL COMPUTES, as plain functions of a device's argument blocks.

  A device holds 512 time steps of the sequence, cut into 16 chunks of 32 steps. The kernel lays the three
  sequence arguments out by (batch, step in chunk, chunk, lane); runs the recurrence of all sixteen chunks at
  once from zero; combines the chunk ends into the state that enters each chunk; adds the state that comes
  from the devices before; and folds the correction of that entering state into the output.
-/
module

public import proofs.«01_k».proof.Proof.Gen.KernelIdeal.Skeleton
public import proofs.«01_k».proof.Proof.Gen.KernelIdeal.Launch
public import Idealize.ShloMosaic.Lib.Pointwise.Index

@[expose] public section

set_option maxRecDepth 16384

noncomputable section

namespace Cert.KernelIdeal.Scan

open Cert.KernelIdeal Cert.KernelIdeal.Gen
open Idealize.ShloMosaic

variable {F : FTy → Type} [FloatOps F]

/-! ## The layout by chunks -/

/-- A block of time steps of 512 lanes, laid out by (batch, step in chunk, chunk, lane). -/
def chX (x : Vec F S8x512x512 .f32) : Vec F S8x32x16x512 .f32 := fun i =>
  x (ix3 (i 0) (⟨32 * (i 2).val + (i 1).val, by have h1 : (i 1).val < 32 := (i 1).isLt; have h2 : (i 2).val < 16 := (i 2).isLt; omega⟩ : Fin 512) (i 3))

/-- A block of time steps of 16 lanes, laid out by (batch, step in chunk, chunk, lane). -/
def chB (b : Vec F S8x512x16 .f32) : Vec F S8x32x16x16 .f32 := fun i =>
  b (ix3 (i 0) (⟨32 * (i 2).val + (i 1).val, by have h1 : (i 1).val < 32 := (i 1).isLt; have h2 : (i 2).val < 16 := (i 2).isLt; omega⟩ : Fin 512) (i 3))

/-- The time order back from the layout by chunks. -/
def unch (y : Vec F S8x32x16x512 .f32) : Vec F S8x512x512 .f32 := fun i =>
  y (ix4 (i 0) (⟨(i 1).val % 32, Nat.mod_lt _ (by decide)⟩ : Fin 32) (⟨(i 1).val / 32, by have h1 : (i 1).val < 512 := (i 1).isLt; omega⟩ : Fin 16) (i 2))

/-- Step `k` of every chunk (512 lanes). -/
def rowX (k : ℕ) (X : Vec F S8x32x16x512 .f32) : Vec F S8x1x16x512 .f32 := fun i =>
  X (ix4 (i 0) (⟨k % 32, Nat.mod_lt _ (by decide)⟩ : Fin 32) (i 2) (i 3))

/-- Step `k` of every chunk (16 lanes). -/
def rowB (k : ℕ) (X : Vec F S8x32x16x16 .f32) : Vec F S8x1x16x16 .f32 := fun i =>
  X (ix4 (i 0) (⟨k % 32, Nat.mod_lt _ (by decide)⟩ : Fin 32) (i 2) (i 3))

/-- Chunk `k` of a per-chunk state. -/
def rowC (k : ℕ) (X : Vec F S8x16x16x512 .f32) : Vec F S8x1x16x512 .f32 := fun i =>
  X (ix4 (i 0) (⟨k % 16, Nat.mod_lt _ (by decide)⟩ : Fin 16) (i 2) (i 3))

/-! ## A device's values -/

section Local

variable (x : Vec F S8x512x512 .f32) (A : Vec F S512x16 .f32) (B C : Vec F S8x512x16 .f32)

/-- The per-chunk states after `k` steps, every chunk started from zero. -/
def hst : ℕ → Vec F S8x16x16x512 .f32
  | 0 => k0_pay56 (F := F)
  | k + 1 => k0_pay58 (k0_pay1 A) (rowX k (chX x)) (rowB k (chB B)) (hst k)

/-- The chunks' own outputs, by (batch, step, chunk, lane). -/
def yown : Vec F S8x32x16x512 .f32 := fun i =>
  k0_pay59 (k0_pay1 A) (rowX (i 1).val (chX x)) (rowB (i 1).val (chB B)) (rowB (i 1).val (chB C)) (hst x A B (i 1).val)
    (ix4 (i 0) (0 : Fin 1) (i 2) (i 3))

/-- The state entering chunk `k`, the block started from zero. -/
def pst : ℕ → Vec F S8x16x512 .f32
  | 0 => k0_pay60 (F := F)
  | k + 1 => k0_pay62 (k0_pay2 A) (pst k) (rowC k (hst x A B 32))

/-- The states entering the sixteen chunks, the block started from zero. -/
def pall : Vec F S8x16x16x512 .f32 := fun i =>
  k0_pay61 (pst x A B (i 1).val) (ix4 (i 0) (0 : Fin 1) (i 2) (i 3))

/-- The state at the block's end, the block started from zero. -/
def fin : Vec F S8x16x512 .f32 := k0_pay63 (pst x A B 16)

/-- What the device sends on, given the state that enters its block. -/
def sent (carry : Vec F S8x16x512 .f32) : Vec F S8x16x512 .f32 := k0_pay65 A carry (fin x A B)

/-- The correction of the per-chunk states after `k` steps. -/
def mst (carry : Vec F S8x16x512 .f32) : ℕ → Vec F S8x16x16x512 .f32
  | 0 => k0_pay67 (k0_pay66 A (pall x A B) carry)
  | k + 1 => k0_pay69 (k0_pay1 A) (mst carry k)

/-- The corrected outputs, by (batch, step, chunk, lane). -/
def yall (carry : Vec F S8x16x512 .f32) : Vec F S8x32x16x512 .f32 := fun i =>
  k0_pay70 (k0_pay1 A) (mst x A B carry (i 1).val) (rowB (i 1).val (chB C)) (rowX (i 1).val (yown x A B C))
    (ix4 (i 0) (0 : Fin 1) (i 2) (i 3))

/-- The device's output block, given the state that enters it. -/
def outv (carry : Vec F S8x16x512 .f32) : Vec F S8x512x512 .f32 := unch (yall x A B C carry)

end Local

/-! ## Along the ring -/

/-- The state that enters device `n`'s block: zero at device 0, and then what the device before sends. -/
def carryN (x : Fin 8 → Vec F S8x512x512 .f32) (A : Fin 8 → Vec F S512x16 .f32) (B : Fin 8 → Vec F S8x512x16 .f32) : ℕ → Vec F S8x16x512 .f32
  | 0 => k0_pay64 (F := F)
  | n + 1 => sent (x ⟨n % 8, Nat.mod_lt _ (by decide)⟩) (A ⟨n % 8, Nat.mod_lt _ (by decide)⟩) (B ⟨n % 8, Nat.mod_lt _ (by decide)⟩) (carryN x A B n)

end Cert.KernelIdeal.Scan

end
-- ==== Proof.Ideal.Mem.lean ====
/-
  LOADS AND STORES of the kernel's buffers by their values: a buffer held at `X` is read through a window of `X`,
  and an unmasked store leaves `X` with the payload put over the window. A buffer that is filled slab by slab is
  held at contents that agree with the wanted ones on the slabs already stored.
-/
module

public import proofs.«01_k».proof.Proof.Ideal.Values
public import Idealize.ShloMosaic.Lib.VecWindow
public import Idealize.ShloMosaic.Lib.Rounds
public import Idealize.ShloMosaic.Lib.Pointwise
public import Idealize.ShloMosaic.Lib.Scf
public import Idealize.ShloMosaic.Lib.Pipeline.Launch
public import Idealize.ShloMosaic.Lib.Pipeline.Kit
public import Idealize.ShloMosaic.Lib.Tactic

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

/-- The duties' algebra of the ring's cells. -/
abbrev UB : Type := URounds (GSem nD τ sig) Bool
/-- The pipeline's copy of the algebra beside the ring's. -/
abbrev UU : Type := UR sig nD τ × UB

local notation "𝕄" => MT nD τ sig Unit (Elt F) ℕ UU ℕ

/-- No calls of variants: the kernel has no unbounded loop. -/
abbrev 𝒱₀ : Variants := Variants.none

/-- Core `c` holds the memref at the values `X`. -/
abbrev hold {s : Shape} (c : Dev nD) (m : Memref sig .tc .vmem s .f32) (X : Vec F s .f32) : sProp 𝕄 :=
  owns (Ix := Unit) (Name := ℕ) (U := UU) (Lvl := ℕ) (c : Thread nD τ) m fullShare X

section Rules

variable {s : Shape} (c : Dev nD) (m : Memref sig .tc .vmem s .f32) (X : Vec F s .f32)

/-- A load through a unit-stride rectangle reads the window of the values held. -/
theorem wp_ld {α : Type} (Q : α → sProp 𝕄) {off off' size : Fin s.rank → ℕ} (inb : ∀ a, off a + size a ≤ s.size a) (h : off = off') (inb' : ∀ a, off' a + size a ≤ s.size a)
    {hl : m.view.LoadsAt (Rect.unit off size inb).toLoadRect}
    {k : ((Rect.unit off size inb).toLoadRect.shape.Idx → Elt F .f32) → Prog (TpuEff nD τ sig (Elt F) Λ₀ .tc) α} :
    hold c m X
      ⊢ iprop((hold c m X -∗ wp frame (wpE (defs₀ (F := F)) 𝒱₀ (c : Thread nD τ) none) Set.univ (k (window X off' size inb')) Q)
        -∗ wp frame (wpE (defs₀ (F := F)) 𝒱₀ (c : Thread nD τ) none) Set.univ (.op (.load m (Rect.unit off size inb).toLoadRect hl) k) Q) := by
  unfold hold owns
  iintro ⟨%f, %hf, H⟩ K
  iapply (wp_load 𝒱₀ (c : Thread nD τ) none Set.univ (m := m) (r := (Rect.unit off size inb).toLoadRect) (S := m.view.set) (View.setOn_subset_set _ _)) $$ H
  iintro H
  rw [View.readAt_unit m.view f inb h inb', hf]
  iapply K
  iexists f
  isplitr; · (ipureintro; exact hf)
  iexact H

/-- An unmasked store through a unit-stride rectangle puts the payload over the window. -/
theorem wp_st {α : Type} (Q : α → sProp 𝕄) {off off' size : Fin s.rank → ℕ} (inb : ∀ a, off a + size a ≤ s.size a) (h : off = off')
    (w : (Rect.unit off size inb).shape.Idx → Elt F .f32)
    {hx : (m.access (Rect.unit off size inb)).Stores Finset.univ} {hm : (Finset.univ : Finset (Rect.unit off size inb).shape.Idx) = Finset.univ ∨ ∀ a, (Rect.unit off size inb).stride a = 1}
    {k : PUnit → Prog (TpuEff nD τ sig (Elt F) Λ₀ .tc) α} :
    hold c m X
      ⊢ iprop((hold c m (put X off' size w) -∗ wp frame (wpE (defs₀ (F := F)) 𝒱₀ (c : Thread nD τ) none) Set.univ (k ⟨⟩) Q)
        -∗ wp frame (wpE (defs₀ (F := F)) 𝒱₀ (c : Thread nD τ) none) Set.univ (.op (.store m (Rect.unit off size inb) w Finset.univ hx hm) k) Q) := by
  unfold hold owns
  iintro ⟨%f, %hf, H⟩ K
  iapply (wp_store 𝒱₀ (c : Thread nD τ) none Set.univ (m := m) (r := Rect.unit off size inb) (Mk := Finset.univ) (S := m.view.set) (View.set_slice_subset _ _)) $$ H
  iintro H
  iapply K
  iexists _
  isplitr
  · ipureintro
    have e := View.read_writes_cons_put (Val := Elt F) m.view f inb w [] h
    rw [View.writes_nil, hf] at e
    exact e
  iexact H

end Rules

/-- Core `c` runs `p` to the postcondition `Q`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- A program that has returned. -/
theorem ret_of {c : Dev nD} {P : sProp 𝕄} {α : Type} {Q : α → sProp 𝕄} {a : α} (h : P ⊢ Q a) : P ⊢ runs c (.ret a) Q := by
  unfold runs
  rw [wp_ret]
  iintro H
  imodintro
  iapply h $$ H

/-- A load of a memref that the assertion holds at `X`. -/
theorem ld_of {s : Shape} {c : Dev nD} {m : Memref sig .tc .vmem s .f32} {X : Vec F s .f32} {P : sProp 𝕄} {α : Type} {Q : α → sProp 𝕄}
    (hP : P ⊢ iprop(hold c m X ∗ (hold c m X -∗ P)))
    {off off' size : Fin s.rank → ℕ} (inb : ∀ a, off a + size a ≤ s.size a) (h : off = off') (inb' : ∀ a, off' a + size a ≤ s.size a) {hl}
    {k : ((Rect.unit off size inb).toLoadRect.shape.Idx → Elt F .f32) → Prog (TpuEff nD τ sig (Elt F) Λ₀ .tc) α}
    (hk : P ⊢ runs c (k (window X off' size inb')) Q) :
    P ⊢ runs c (.op (.load m (Rect.unit off size inb).toLoadRect hl) k) Q := by
  refine hP.trans ?_
  iintro ⟨H, K⟩
  iapply (wp_ld c m X Q inb h inb') $$ H
  iintro H
  ihave P := K $$ H
  iapply hk $$ P

/-- A load whose result is not used: the assertion holds the memref at some contents. -/
theorem ld_any {s : Shape} {c : Dev nD} {m : Memref sig .tc .vmem s .f32} {P : sProp 𝕄} {α : Type} {Q : α → sProp 𝕄}
    (hP : P ⊢ iprop(∃ X, hold c m X ∗ (hold c m X -∗ P)))
    {off size : Fin s.rank → ℕ} (inb : ∀ a, off a + size a ≤ s.size a) {hl}
    {k : ((Rect.unit off size inb).toLoadRect.shape.Idx → Elt F .f32) → Prog (TpuEff nD τ sig (Elt F) Λ₀ .tc) α}
    (hk : ∀ v, P ⊢ runs c (k v) Q) :
    P ⊢ runs c (.op (.load m (Rect.unit off size inb).toLoadRect hl) k) Q := by
  refine hP.trans ?_
  iintro ⟨%X, H, K⟩
  iapply (wp_ld c m X Q inb rfl inb) $$ H
  iintro H
  ihave P := K $$ H
  iapply (hk _) $$ P

/-- A store into a memref that the assertion holds: the memref is left with the payload put over the window. -/
theorem st_of {s : Shape} {c : Dev nD} {m : Memref sig .tc .vmem s .f32} {P P' : sProp 𝕄} {α : Type} {Q : α → sProp 𝕄}
    {off off' size : Fin s.rank → ℕ} (inb : ∀ a, off a + size a ≤ s.size a) (h : off = off')
    {w : (Rect.unit off size inb).shape.Idx → Elt F .f32}
    (hP : P ⊢ iprop(∃ X, hold c m X ∗ (hold c m (put X off' size w) -∗ P'))) {hx} {hm}
    {k : PUnit → Prog (TpuEff nD τ sig (Elt F) Λ₀ .tc) α}
    (hk : P' ⊢ runs c (k ⟨⟩) Q) :
    P ⊢ runs c (.op (.store m (Rect.unit off size inb) w Finset.univ hx hm) k) Q := by
  refine hP.trans ?_
  iintro ⟨%X, H, K⟩
  iapply (wp_st c m X Q inb h w) $$ H
  iintro H
  ihave P := K $$ H
  iapply hk $$ P

/-! ## Filling a buffer slab by slab -/

/-- Chunk `n` of a block, as the slab stored for it (512 lanes). -/
def slabX (x : Vec F S8x512x512 .f32) (n : ℕ) : Vec F S8x32x1x512 .f32 := fun i =>
  x (ix3 (i 0) (⟨(32 * n + (i 1).val) % 512, Nat.mod_lt _ (by decide)⟩ : Fin 512) (i 3))

/-- Chunk `n` of a block, as the slab stored for it (16 lanes). -/
def slabB (b : Vec F S8x512x16 .f32) (n : ℕ) : Vec F S8x32x1x16 .f32 := fun i =>
  b (ix3 (i 0) (⟨(32 * n + (i 1).val) % 512, Nat.mod_lt _ (by decide)⟩ : Fin 512) (i 3))

/-- Chunk `n` of the outputs, as the slab stored for it. -/
def slabY (y : Vec F S8x32x16x512 .f32) (n : ℕ) : Vec F S8x32x512 .f32 := fun i =>
  y (ix4 (i 0) (i 1) (⟨n % 16, Nat.mod_lt _ (by decide)⟩ : Fin 16) (i 2))

/-- The slab stored for a chunk is the load of the chunk's steps, cast (512 lanes). -/
theorem cast_slabX (x : Vec F S8x512x512 .f32) (n : ℕ) (hn : n < 16) {off : Fin 3 → ℕ} (h : off = ![0, 32 * n, 0]) (inb : ∀ a, off a + S8x32x512.size a ≤ S8x512x512.size a) :
    shapeCast S8x32x1x512 (shapeCast S8x32x512 (window (s := S8x512x512) x off S8x32x512.size inb) shapeCasts_S8x32x512_S8x32x512) shapeCasts_S8x32x512_S8x32x1x512
      = slabX x n := by
  subst h
  funext i
  idx_vars i
  unfold slabX
  pointwise
  unfold window
  refine congrArg x (funext fun a => Fin.ext ?_)
  match a with
  | ⟨0, _⟩ => show 0 + 1 * _ = _; simp
  | ⟨1, _⟩ => show 32 * n + 1 * _ = _; simp; omega
  | ⟨2, _⟩ => show 0 + 1 * _ = _; simp

/-- The slab stored for a chunk is the load of the chunk's steps, cast (16 lanes). -/
theorem cast_slabB (b : Vec F S8x512x16 .f32) (n : ℕ) (hn : n < 16) {off : Fin 3 → ℕ} (h : off = ![0, 32 * n, 0]) (inb : ∀ a, off a + S8x32x16.size a ≤ S8x512x16.size a) :
    shapeCast S8x32x1x16 (shapeCast S8x32x16 (window (s := S8x512x16) b off S8x32x16.size inb) shapeCasts_S8x32x16_S8x32x16) shapeCasts_S8x32x16_S8x32x1x16
      = slabB b n := by
  subst h
  funext i
  idx_vars i
  unfold slabB
  pointwise
  unfold window
  refine congrArg b (funext fun a => Fin.ext ?_)
  match a with
  | ⟨0, _⟩ => show 0 + 1 * _ = _; simp
  | ⟨1, _⟩ => show 32 * n + 1 * _ = _; simp; omega
  | ⟨2, _⟩ => show 0 + 1 * _ = _; simp

/-- The slab of outputs stored for a chunk is the load of the chunk, cast. -/
theorem cast_slabY (y : Vec F S8x32x16x512 .f32) (n : ℕ) (hn : n < 16) {off : Fin 4 → ℕ} (h : off = ![0, 0, n, 0]) (inb : ∀ a, off a + S8x32x1x512.size a ≤ S8x32x16x512.size a) :
    shapeCast S8x32x512 (window (s := S8x32x16x512) y off S8x32x1x512.size inb) shapeCasts_S8x32x1x512_S8x32x512 = slabY y n := by
  subst h
  funext i
  idx_vars i
  unfold slabY
  pointwise
  unfold window
  refine congrArg y (funext fun a => Fin.ext ?_)
  match a with
  | ⟨0, _⟩ => show 0 + 1 * _ = _; simp
  | ⟨1, _⟩ => show 0 + 1 * _ = _; simp
  | ⟨2, _⟩ => show n + 1 * _ = _; simp; omega
  | ⟨3, _⟩ => show 0 + 1 * _ = _; simp

/-- Putting slab `n` of the wanted contents over contents that are right on the slabs before it makes them right on the
slabs up to `n`. -/
theorem put_slabX (x : Vec F S8x512x512 .f32) (X : Vec F S8x32x16x512 .f32) (n : ℕ) (hn : n < 16)
    (hX : ∀ i : S8x32x16x512.Idx, (i 2).val < n → X i = chX x i) (i : S8x32x16x512.Idx) (hi : (i 2).val < n + 1) :
    put (s := S8x32x16x512) X ![0, 0, n, 0] S8x32x1x512.size (slabX x n) i = chX x i := by
  unfold put
  split
  · rename_i h
    unfold slabX chX
    refine congrArg x ?_
    have h2 := h 2
    have e2 : (i 2).val = n := by
      have l1 : n ≤ (i 2).val := h2.1
      omega
    have l1 : (i 1).val < 32 := (i 1).isLt
    refine funext fun a => Fin.ext ?_
    match a with
    | ⟨0, _⟩ => show (i 0).val - 0 = _; simp
    | ⟨1, _⟩ => show (32 * n + ((i 1).val - 0)) % 512 = 32 * (i 2).val + (i 1).val; omega
    | ⟨2, _⟩ => show (i 3).val - 0 = _; simp
  · rename_i h
    refine hX i ?_
    by_contra hc
    refine h fun a => ?_
    have l0 : (i 0).val < 8 := (i 0).isLt
    have l1 : (i 1).val < 32 := (i 1).isLt
    have l3 : (i 3).val < 512 := (i 3).isLt
    match a with
    | ⟨0, _⟩ => show 0 ≤ (i 0).val ∧ (i 0).val < 0 + 8; omega
    | ⟨1, _⟩ => show 0 ≤ (i 1).val ∧ (i 1).val < 0 + 32; omega
    | ⟨2, _⟩ => show n ≤ (i 2).val ∧ (i 2).val < n + 1; omega
    | ⟨3, _⟩ => show 0 ≤ (i 3).val ∧ (i 3).val < 0 + 512; omega

/-- The same at 16 lanes. -/
theorem put_slabB (b : Vec F S8x512x16 .f32) (X : Vec F S8x32x16x16 .f32) (n : ℕ) (hn : n < 16)
    (hX : ∀ i : S8x32x16x16.Idx, (i 2).val < n → X i = chB b i) (i : S8x32x16x16.Idx) (hi : (i 2).val < n + 1) :
    put (s := S8x32x16x16) X ![0, 0, n, 0] S8x32x1x16.size (slabB b n) i = chB b i := by
  unfold put
  split
  · rename_i h
    unfold slabB chB
    refine congrArg b ?_
    have h2 := h 2
    have e2 : (i 2).val = n := by
      have l1 : n ≤ (i 2).val := h2.1
      omega
    have l1 : (i 1).val < 32 := (i 1).isLt
    refine funext fun a => Fin.ext ?_
    match a with
    | ⟨0, _⟩ => show (i 0).val - 0 = _; simp
    | ⟨1, _⟩ => show (32 * n + ((i 1).val - 0)) % 512 = 32 * (i 2).val + (i 1).val; omega
    | ⟨2, _⟩ => show (i 3).val - 0 = _; simp
  · rename_i h
    refine hX i ?_
    by_contra hc
    refine h fun a => ?_
    have l0 : (i 0).val < 8 := (i 0).isLt
    have l1 : (i 1).val < 32 := (i 1).isLt
    have l3 : (i 3).val < 16 := (i 3).isLt
    match a with
    | ⟨0, _⟩ => show 0 ≤ (i 0).val ∧ (i 0).val < 0 + 8; omega
    | ⟨1, _⟩ => show 0 ≤ (i 1).val ∧ (i 1).val < 0 + 32; omega
    | ⟨2, _⟩ => show n ≤ (i 2).val ∧ (i 2).val < n + 1; omega
    | ⟨3, _⟩ => show 0 ≤ (i 3).val ∧ (i 3).val < 0 + 16; omega

/-- The same for the outputs, chunk `n` at steps `32 n` to `32 n + 31`. -/
theorem put_slabY (y : Vec F S8x32x16x512 .f32) (X : Vec F S8x512x512 .f32) (n : ℕ) (hn : n < 16)
    (hX : ∀ i : S8x512x512.Idx, (i 1).val < 32 * n → X i = unch y i) (i : S8x512x512.Idx) (hi : (i 1).val < 32 * (n + 1)) :
    put (s := S8x512x512) X ![0, 32 * n, 0] S8x32x512.size (slabY y n) i = unch y i := by
  unfold put
  split
  · rename_i h
    unfold slabY unch
    refine congrArg y ?_
    have h1 : 32 * n ≤ (i 1).val := (h 1).1
    refine funext fun a => Fin.ext ?_
    match a with
    | ⟨0, _⟩ => show (i 0).val - 0 = _; simp
    | ⟨1, _⟩ => show (i 1).val - 32 * n = (i 1).val % 32; omega
    | ⟨2, _⟩ => show n % 16 = (i 1).val / 32; omega
    | ⟨3, _⟩ => show (i 2).val - 0 = _; simp
  · rename_i h
    refine hX i ?_
    by_contra hc
    refine h fun a => ?_
    have l0 : (i 0).val < 8 := (i 0).isLt
    have l1 : (i 1).val < 512 := (i 1).isLt
    have l2 : (i 2).val < 512 := (i 2).isLt
    match a with
    | ⟨0, _⟩ => show 0 ≤ (i 0).val ∧ (i 0).val < 0 + 8; omega
    | ⟨1, _⟩ => show 32 * n ≤ (i 1).val ∧ (i 1).val < 32 * n + 32; omega
    | ⟨2, _⟩ => show 0 ≤ (i 2).val ∧ (i 2).val < 0 + 512; omega

/-- The memref holds the chunk layout of `x` on its first `n` chunks. -/
def fillX (c : Dev nD) (m : Memref sig .tc .vmem S8x32x16x512 .f32) (x : Vec F S8x512x512 .f32) (n : ℕ) : sProp 𝕄 :=
  iprop(∃ X : Vec F S8x32x16x512 .f32, ⌜∀ i : S8x32x16x512.Idx, (i 2).val < n → X i = chX x i⌝ ∗ hold c m X)

/-- The memref holds the chunk layout of `b` on its first `n` chunks. -/
def fillB (c : Dev nD) (m : Memref sig .tc .vmem S8x32x16x16 .f32) (b : Vec F S8x512x16 .f32) (n : ℕ) : sProp 𝕄 :=
  iprop(∃ X : Vec F S8x32x16x16 .f32, ⌜∀ i : S8x32x16x16.Idx, (i 2).val < n → X i = chB b i⌝ ∗ hold c m X)

/-- The memref holds the outputs `y` in time order on its first `n` chunks. -/
def fillY (c : Dev nD) (m : Memref sig .tc .vmem S8x512x512 .f32) (y : Vec F S8x32x16x512 .f32) (n : ℕ) : sProp 𝕄 :=
  iprop(∃ X : Vec F S8x512x512 .f32, ⌜∀ i : S8x512x512.Idx, (i 1).val < 32 * n → X i = unch y i⌝ ∗ hold c m X)

end Cert.KernelIdeal.Scan

end
-- ==== Proof.Ideal.Copy.lean ====
/-
  THE COPY INTO THE LAYOUT BY CHUNKS: the body's first parts copy the three sequence blocks, one chunk after the
  other, into the buffers laid out by (batch, step in chunk, chunk, lane). Each part's theorem takes the three
  buffers from some number of chunks done to another.
-/
module

public import proofs.«01_k».proof.Proof.Ideal.Mem

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

section Copy

variable (c : Dev nD) (x : Vec F S8x512x512 .f32) (A : Vec F S512x16 .f32) (B C : Vec F S8x512x16 .f32)
variable (arg0 : Memref sig .tc .vmem S8x512x512 .f32) (harg0 : arg0.IsWhole) (arg1 : Memref sig .tc .vmem S512x16 .f32) (harg1 : arg1.IsWhole) (arg2 : Memref sig .tc .vmem S8x512x16 .f32) (harg2 : arg2.IsWhole) (arg3 : Memref sig .tc .vmem S8x512x16 .f32) (harg3 : arg3.IsWhole) (arg4 : Memref sig .tc .vmem S8x512x512 .f32) (harg4 : arg4.IsWhole)
  (arg5 : Memref sig .tc .vmem S8x32x16x512 .f32) (harg5 : arg5.IsWhole) (arg6 : Memref sig .tc .vmem S8x32x16x16 .f32) (harg6 : arg6.IsWhole) (arg7 : Memref sig .tc .vmem S8x32x16x16 .f32) (harg7 : arg7.IsWhole) (arg8 : Memref sig .tc .vmem S8x32x16x512 .f32) (harg8 : arg8.IsWhole)
  (arg9 : Memref sig .tc .vmem S8x16x16x512 .f32) (harg9 : arg9.IsWhole) (arg10 : Memref sig .tc .vmem S8x16x16x512 .f32) (harg10 : arg10.IsWhole) (arg11 : Memref sig .tc .vmem S8x16x512 .f32) (harg11 : arg11.IsWhole) (arg12 : Memref sig .tc .vmem S8x16x512 .f32) (harg12 : arg12.IsWhole) (arg13 : Memref sig .tc .vmem S8x16x512 .f32) (harg13 : arg13.IsWhole)
  (arg14 : DmaSems sig S_) (arg15 : DmaSems sig S_)

/-- The sequence blocks, and the buffers laid out by chunks filled on so many chunks each. -/
def slabs (n₅ n₆ n₇ : ℕ) : sProp 𝕄 :=
  iprop(hold c arg0 x ∗ hold c arg2 B ∗ hold c arg3 C ∗ fillX c arg5 x n₅ ∗ fillB c arg6 B n₆ ∗ fillB c arg7 C n₇)

variable {c x B C arg0 arg2 arg3 arg5 arg6 arg7}
variable {α : Type} {n₅ n₆ n₇ : ℕ}

/-- A load of the first sequence block. -/
theorem slabs_ld0 {R : sProp 𝕄} {Q : α → sProp 𝕄} {off size : Fin 3 → ℕ} (inb : ∀ a, off a + size a ≤ S8x512x512.size a) {hl}
    {k : ((Rect.unit (s := S8x512x512) off size inb).toLoadRect.shape.Idx → Elt F .f32) → Prog (TpuEff nD τ sig (Elt F) Λ₀ .tc) α}
    (hk : iprop(slabs c x B C arg0 arg2 arg3 arg5 arg6 arg7 n₅ n₆ n₇ ∗ R) ⊢ runs c (k (window (s := S8x512x512) x off size inb)) Q) :
    iprop(slabs c x B C arg0 arg2 arg3 arg5 arg6 arg7 n₅ n₆ n₇ ∗ R) ⊢ runs c (.op (.load arg0 (Rect.unit (s := S8x512x512) off size inb).toLoadRect hl) k) Q := by
  refine ld_of (X := x) ?_ inb rfl inb hk
  unfold slabs
  iintro ⟨⟨H, HS⟩, HR⟩
  isplitl [H]; · iexact H
  iintro H
  isplitr [HR]
  · isplitl [H]; · iexact H
    iexact HS
  · iexact HR

/-- A load of the second sequence block. -/
theorem slabs_ld2 {R : sProp 𝕄} {Q : α → sProp 𝕄} {off size : Fin 3 → ℕ} (inb : ∀ a, off a + size a ≤ S8x512x16.size a) {hl}
    {k : ((Rect.unit (s := S8x512x16) off size inb).toLoadRect.shape.Idx → Elt F .f32) → Prog (TpuEff nD τ sig (Elt F) Λ₀ .tc) α}
    (hk : iprop(slabs c x B C arg0 arg2 arg3 arg5 arg6 arg7 n₅ n₆ n₇ ∗ R) ⊢ runs c (k (window (s := S8x512x16) B off size inb)) Q) :
    iprop(slabs c x B C arg0 arg2 arg3 arg5 arg6 arg7 n₅ n₆ n₇ ∗ R) ⊢ runs c (.op (.load arg2 (Rect.unit (s := S8x512x16) off size inb).toLoadRect hl) k) Q := by
  refine ld_of (X := B) ?_ inb rfl inb hk
  unfold slabs
  iintro ⟨⟨H0, H, HS⟩, HR⟩
  isplitl [H]; · iexact H
  iintro H
  isplitr [HR]
  · isplitl [H0]; · iexact H0
    isplitl [H]; · iexact H
    iexact HS
  · iexact HR

/-- A load of the third sequence block. -/
theorem slabs_ld3 {R : sProp 𝕄} {Q : α → sProp 𝕄} {off size : Fin 3 → ℕ} (inb : ∀ a, off a + size a ≤ S8x512x16.size a) {hl}
    {k : ((Rect.unit (s := S8x512x16) off size inb).toLoadRect.shape.Idx → Elt F .f32) → Prog (TpuEff nD τ sig (Elt F) Λ₀ .tc) α}
    (hk : iprop(slabs c x B C arg0 arg2 arg3 arg5 arg6 arg7 n₅ n₆ n₇ ∗ R) ⊢ runs c (k (window (s := S8x512x16) C off size inb)) Q) :
    iprop(slabs c x B C arg0 arg2 arg3 arg5 arg6 arg7 n₅ n₆ n₇ ∗ R) ⊢ runs c (.op (.load arg3 (Rect.unit (s := S8x512x16) off size inb).toLoadRect hl) k) Q := by
  refine ld_of (X := C) ?_ inb rfl inb hk
  unfold slabs
  iintro ⟨⟨H0, H2, H, HS⟩, HR⟩
  isplitl [H]; · iexact H
  iintro H
  isplitr [HR]
  · isplitl [H0]; · iexact H0
    isplitl [H2]; · iexact H2
    isplitl [H]; · iexact H
    iexact HS
  · iexact HR

/-- A load of the first chunk buffer whose result is not used. -/
theorem slabs_ld5 {R : sProp 𝕄} {Q : α → sProp 𝕄} {off size : Fin 4 → ℕ} (inb : ∀ a, off a + size a ≤ S8x32x16x512.size a) {hl}
    {k : ((Rect.unit (s := S8x32x16x512) off size inb).toLoadRect.shape.Idx → Elt F .f32) → Prog (TpuEff nD τ sig (Elt F) Λ₀ .tc) α}
    (hk : ∀ v, iprop(slabs c x B C arg0 arg2 arg3 arg5 arg6 arg7 n₅ n₆ n₇ ∗ R) ⊢ runs c (k v) Q) :
    iprop(slabs c x B C arg0 arg2 arg3 arg5 arg6 arg7 n₅ n₆ n₇ ∗ R) ⊢ runs c (.op (.load arg5 (Rect.unit (s := S8x32x16x512) off size inb).toLoadRect hl) k) Q := by
  refine ld_any ?_ inb hk
  unfold slabs fillX
  iintro ⟨⟨H0, H2, H3, ⟨%X, %hX, H⟩, HS⟩, HR⟩
  iexists X
  isplitl [H]; · iexact H
  iintro H
  isplitr [HR]
  · isplitl [H0]; · iexact H0
    isplitl [H2]; · iexact H2
    isplitl [H3]; · iexact H3
    isplitl [H]
    · iexists X
      isplitr; · (ipureintro; exact hX)
      iexact H
    iexact HS
  · iexact HR

/-- A load of the second chunk buffer whose result is not used. -/
theorem slabs_ld6 {R : sProp 𝕄} {Q : α → sProp 𝕄} {off size : Fin 4 → ℕ} (inb : ∀ a, off a + size a ≤ S8x32x16x16.size a) {hl}
    {k : ((Rect.unit (s := S8x32x16x16) off size inb).toLoadRect.shape.Idx → Elt F .f32) → Prog (TpuEff nD τ sig (Elt F) Λ₀ .tc) α}
    (hk : ∀ v, iprop(slabs c x B C arg0 arg2 arg3 arg5 arg6 arg7 n₅ n₆ n₇ ∗ R) ⊢ runs c (k v) Q) :
    iprop(slabs c x B C arg0 arg2 arg3 arg5 arg6 arg7 n₅ n₆ n₇ ∗ R) ⊢ runs c (.op (.load arg6 (Rect.unit (s := S8x32x16x16) off size inb).toLoadRect hl) k) Q := by
  refine ld_any ?_ inb hk
  unfold slabs fillB
  iintro ⟨⟨H0, H2, H3, H5, ⟨%X, %hX, H⟩, HS⟩, HR⟩
  iexists X
  isplitl [H]; · iexact H
  iintro H
  isplitr [HR]
  · isplitl [H0]; · iexact H0
    isplitl [H2]; · iexact H2
    isplitl [H3]; · iexact H3
    isplitl [H5]; · iexact H5
    isplitl [H]
    · iexists X
      isplitr; · (ipureintro; exact hX)
      iexact H
    iexact HS
  · iexact HR

/-- A load of the third chunk buffer whose result is not used. -/
theorem slabs_ld7 {R : sProp 𝕄} {Q : α → sProp 𝕄} {off size : Fin 4 → ℕ} (inb : ∀ a, off a + size a ≤ S8x32x16x16.size a) {hl}
    {k : ((Rect.unit (s := S8x32x16x16) off size inb).toLoadRect.shape.Idx → Elt F .f32) → Prog (TpuEff nD τ sig (Elt F) Λ₀ .tc) α}
    (hk : ∀ v, iprop(slabs c x B C arg0 arg2 arg3 arg5 arg6 arg7 n₅ n₆ n₇ ∗ R) ⊢ runs c (k v) Q) :
    iprop(slabs c x B C arg0 arg2 arg3 arg5 arg6 arg7 n₅ n₆ n₇ ∗ R) ⊢ runs c (.op (.load arg7 (Rect.unit (s := S8x32x16x16) off size inb).toLoadRect hl) k) Q := by
  refine ld_any ?_ inb hk
  unfold slabs fillB
  iintro ⟨⟨H0, H2, H3, H5, H6, %X, %hX, H⟩, HR⟩
  iexists X
  isplitl [H]; · iexact H
  iintro H
  isplitr [HR]
  · isplitl [H0]; · iexact H0
    isplitl [H2]; · iexact H2
    isplitl [H3]; · iexact H3
    isplitl [H5]; · iexact H5
    isplitl [H6]; · iexact H6
    iexists X
    isplitr; · (ipureintro; exact hX)
    iexact H
  · iexact HR

/-- The store of the next chunk of the first block. -/
theorem slabs_st5 {R : sProp 𝕄} {Q : α → sProp 𝕄} {off : Fin 4 → ℕ} (inb : ∀ a, off a + S8x32x1x512.size a ≤ S8x32x16x512.size a)
    (hn : n₅ < 16) (h : off = ![0, 0, n₅, 0]) {w : Vec F S8x32x1x512 .f32} (hw : w = slabX x n₅) {hx} {hm}
    {k : PUnit → Prog (TpuEff nD τ sig (Elt F) Λ₀ .tc) α}
    (hk : iprop(slabs c x B C arg0 arg2 arg3 arg5 arg6 arg7 (n₅ + 1) n₆ n₇ ∗ R) ⊢ runs c (k ⟨⟩) Q) :
    iprop(slabs c x B C arg0 arg2 arg3 arg5 arg6 arg7 n₅ n₆ n₇ ∗ R) ⊢ runs c (.op (.store arg5 (Rect.unit (s := S8x32x16x512) off S8x32x1x512.size inb) w Finset.univ hx hm) k) Q := by
  subst hw
  refine st_of inb h ?_ hk
  unfold slabs fillX
  iintro ⟨⟨H0, H2, H3, ⟨%X, %hX, H⟩, HS⟩, HR⟩
  iexists X
  isplitl [H]; · iexact H
  iintro H
  isplitr [HR]
  · isplitl [H0]; · iexact H0
    isplitl [H2]; · iexact H2
    isplitl [H3]; · iexact H3
    isplitl [H]
    · iexists _
      isplitr; · (ipureintro; exact put_slabX x X n₅ hn hX)
      iexact H
    iexact HS
  · iexact HR

/-- The store of the next chunk of the second block. -/
theorem slabs_st6 {R : sProp 𝕄} {Q : α → sProp 𝕄} {off : Fin 4 → ℕ} (inb : ∀ a, off a + S8x32x1x16.size a ≤ S8x32x16x16.size a)
    (hn : n₆ < 16) (h : off = ![0, 0, n₆, 0]) {w : Vec F S8x32x1x16 .f32} (hw : w = slabB B n₆) {hx} {hm}
    {k : PUnit → Prog (TpuEff nD τ sig (Elt F) Λ₀ .tc) α}
    (hk : iprop(slabs c x B C arg0 arg2 arg3 arg5 arg6 arg7 n₅ (n₆ + 1) n₇ ∗ R) ⊢ runs c (k ⟨⟩) Q) :
    iprop(slabs c x B C arg0 arg2 arg3 arg5 arg6 arg7 n₅ n₆ n₇ ∗ R) ⊢ runs c (.op (.store arg6 (Rect.unit (s := S8x32x16x16) off S8x32x1x16.size inb) w Finset.univ hx hm) k) Q := by
  subst hw
  refine st_of inb h ?_ hk
  unfold slabs fillB
  iintro ⟨⟨H0, H2, H3, H5, ⟨%X, %hX, H⟩, HS⟩, HR⟩
  iexists X
  isplitl [H]; · iexact H
  iintro H
  isplitr [HR]
  · isplitl [H0]; · iexact H0
    isplitl [H2]; · iexact H2
    isplitl [H3]; · iexact H3
    isplitl [H5]; · iexact H5
    isplitl [H]
    · iexists _
      isplitr; · (ipureintro; exact put_slabB B X n₆ hn hX)
      iexact H
    iexact HS
  · iexact HR

/-- The store of the next chunk of the third block. -/
theorem slabs_st7 {R : sProp 𝕄} {Q : α → sProp 𝕄} {off : Fin 4 → ℕ} (inb : ∀ a, off a + S8x32x1x16.size a ≤ S8x32x16x16.size a)
    (hn : n₇ < 16) (h : off = ![0, 0, n₇, 0]) {w : Vec F S8x32x1x16 .f32} (hw : w = slabB C n₇) {hx} {hm}
    {k : PUnit → Prog (TpuEff nD τ sig (Elt F) Λ₀ .tc) α}
    (hk : iprop(slabs c x B C arg0 arg2 arg3 arg5 arg6 arg7 n₅ n₆ (n₇ + 1) ∗ R) ⊢ runs c (k ⟨⟩) Q) :
    iprop(slabs c x B C arg0 arg2 arg3 arg5 arg6 arg7 n₅ n₆ n₇ ∗ R) ⊢ runs c (.op (.store arg7 (Rect.unit (s := S8x32x16x16) off S8x32x1x16.size inb) w Finset.univ hx hm) k) Q := by
  subst hw
  refine st_of inb h ?_ hk
  unfold slabs fillB
  iintro ⟨⟨H0, H2, H3, H5, H6, %X, %hX, H⟩, HR⟩
  iexists X
  isplitl [H]; · iexact H
  iintro H
  isplitr [HR]
  · isplitl [H0]; · iexact H0
    isplitl [H2]; · iexact H2
    isplitl [H3]; · iexact H3
    isplitl [H5]; · iexact H5
    isplitl [H6]; · iexact H6
    iexists _
    isplitr; · (ipureintro; exact put_slabB C X n₇ hn hX)
    iexact H
  · iexact HR

/-- The third part: chunks 1 and 2 of the first two blocks, chunk 1 of the third. -/
theorem part3 (Q : PUnit → sProp 𝕄) (v : Vec F S8x32x512 .f32) (hv : k0_pay7 v = slabX x 1) :
    iprop(slabs c x B C arg0 arg2 arg3 arg5 arg6 arg7 1 1 1 ∗ (slabs c x B C arg0 arg2 arg3 arg5 arg6 arg7 3 3 2 -∗ Q ⟨⟩))
      ⊢ runs c (k0_part3_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 v) Q := by
  unfold k0_part3_skel
  simp only [Prog.lift, Prog.bind_op, Prog.bind_ret, Prog.pure_eq_ret]
  refine slabs_ld5 _ fun _ => slabs_st5 _ (by decide) rfl hv ?_
  refine slabs_ld2 _ (slabs_ld6 _ fun _ => slabs_st6 _ (by decide) rfl (cast_slabB B 1 (by decide) rfl _) ?_)
  refine slabs_ld3 _ (slabs_ld7 _ fun _ => slabs_st7 _ (by decide) rfl (cast_slabB C 1 (by decide) rfl _) ?_)
  refine slabs_ld0 _ (slabs_ld5 _ fun _ => slabs_st5 _ (by decide) rfl (cast_slabX x 2 (by decide) rfl _) ?_)
  refine slabs_ld2 _ (slabs_ld6 _ fun _ => slabs_st6 _ (by decide) rfl (cast_slabB B 2 (by decide) rfl _) ?_)
  refine ret_of ?_
  iintro ⟨HS, HK⟩
  iapply HK $$ HS

/-- The fourth part: from chunk 2 of the third block to the load of chunk 4 of the first. -/
theorem part4 (Q : Vec F S8x32x512 .f32 → sProp 𝕄) :
    iprop(slabs c x B C arg0 arg2 arg3 arg5 arg6 arg7 3 3 2 ∗ (∀ v' : Vec F S8x32x512 .f32, ⌜k0_pay17 v' = slabX x 4⌝ -∗ slabs c x B C arg0 arg2 arg3 arg5 arg6 arg7 4 4 4 -∗ Q v'))
      ⊢ runs c (k0_part4_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15) Q := by
  unfold k0_part4_skel
  simp only [Prog.lift, Prog.bind_op, Prog.bind_ret, Prog.pure_eq_ret]
  refine slabs_ld3 _ (slabs_ld7 _ fun _ => slabs_st7 _ (by decide) rfl (cast_slabB C 2 (by decide) rfl _) ?_)
  refine slabs_ld0 _ (slabs_ld5 _ fun _ => slabs_st5 _ (by decide) rfl (cast_slabX x 3 (by decide) rfl _) ?_)
  refine slabs_ld2 _ (slabs_ld6 _ fun _ => slabs_st6 _ (by decide) rfl (cast_slabB B 3 (by decide) rfl _) ?_)
  refine slabs_ld3 _ (slabs_ld7 _ fun _ => slabs_st7 _ (by decide) rfl (cast_slabB C 3 (by decide) rfl _) ?_)
  refine slabs_ld0 _ (slabs_ld5 _ fun _ => ?_)
  refine ret_of ?_
  iintro ⟨HS, HK⟩
  iapply HK $$ %_ [] HS
  ipureintro
  exact cast_slabX x 4 (by decide) rfl _

/-- The fifth part: from chunk 4 of the first block to the load of chunk 5 of the third. -/
theorem part5 (Q : Vec F S8x32x16 .f32 → sProp 𝕄) (v : Vec F S8x32x512 .f32) (hv : k0_pay17 v = slabX x 4) :
    iprop(slabs c x B C arg0 arg2 arg3 arg5 arg6 arg7 4 4 4 ∗ (∀ v' : Vec F S8x32x16 .f32, ⌜k0_pay23 v' = slabB C 5⌝ -∗ slabs c x B C arg0 arg2 arg3 arg5 arg6 arg7 6 6 5 -∗ Q v'))
      ⊢ runs c (k0_part5_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 v) Q := by
  unfold k0_part5_skel
  simp only [Prog.lift, Prog.bind_op, Prog.bind_ret, Prog.pure_eq_ret]
  refine slabs_st5 _ (by decide) rfl hv ?_
  refine slabs_ld2 _ (slabs_ld6 _ fun _ => slabs_st6 _ (by decide) rfl (cast_slabB B 4 (by decide) rfl _) ?_)
  refine slabs_ld3 _ (slabs_ld7 _ fun _ => slabs_st7 _ (by decide) rfl (cast_slabB C 4 (by decide) rfl _) ?_)
  refine slabs_ld0 _ (slabs_ld5 _ fun _ => slabs_st5 _ (by decide) rfl (cast_slabX x 5 (by decide) rfl _) ?_)
  refine slabs_ld2 _ (slabs_ld6 _ fun _ => slabs_st6 _ (by decide) rfl (cast_slabB B 5 (by decide) rfl _) ?_)
  refine slabs_ld3 _ ?_
  refine ret_of ?_
  iintro ⟨HS, HK⟩
  iapply HK $$ %_ [] HS
  ipureintro
  exact cast_slabB C 5 (by decide) rfl _

/-- The sixth part: from chunk 5 of the third block to chunk 7 of the first. -/
theorem part6 (Q : PUnit → sProp 𝕄) (v : Vec F S8x32x16 .f32) (hv : k0_pay23 v = slabB C 5) :
    iprop(slabs c x B C arg0 arg2 arg3 arg5 arg6 arg7 6 6 5 ∗ (slabs c x B C arg0 arg2 arg3 arg5 arg6 arg7 8 7 7 -∗ Q ⟨⟩))
      ⊢ runs c (k0_part6_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 v) Q := by
  unfold k0_part6_skel
  simp only [Prog.lift, Prog.bind_op, Prog.bind_ret, Prog.pure_eq_ret]
  refine slabs_ld7 _ fun _ => slabs_st7 _ (by decide) rfl hv ?_
  refine slabs_ld0 _ (slabs_ld5 _ fun _ => slabs_st5 _ (by decide) rfl (cast_slabX x 6 (by decide) rfl _) ?_)
  refine slabs_ld2 _ (slabs_ld6 _ fun _ => slabs_st6 _ (by decide) rfl (cast_slabB B 6 (by decide) rfl _) ?_)
  refine slabs_ld3 _ (slabs_ld7 _ fun _ => slabs_st7 _ (by decide) rfl (cast_slabB C 6 (by decide) rfl _) ?_)
  refine slabs_ld0 _ (slabs_ld5 _ fun _ => slabs_st5 _ (by decide) rfl (cast_slabX x 7 (by decide) rfl _) ?_)
  refine ret_of ?_
  iintro ⟨HS, HK⟩
  iapply HK $$ HS

/-- The seventh part: from chunk 7 of the second block to the load of chunk 8 of the third. -/
theorem part7 (Q : Vec F S8x32x16 .f32 → sProp 𝕄) :
    iprop(slabs c x B C arg0 arg2 arg3 arg5 arg6 arg7 8 7 7 ∗ (∀ v' : Vec F S8x32x16 .f32, ⌜k0_pay33 v' = slabB C 8⌝ -∗ slabs c x B C arg0 arg2 arg3 arg5 arg6 arg7 9 9 8 -∗ Q v'))
      ⊢ runs c (k0_part7_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15) Q := by
  unfold k0_part7_skel
  simp only [Prog.lift, Prog.bind_op, Prog.bind_ret, Prog.pure_eq_ret]
  refine slabs_ld2 _ (slabs_ld6 _ fun _ => slabs_st6 _ (by decide) rfl (cast_slabB B 7 (by decide) rfl _) ?_)
  refine slabs_ld3 _ (slabs_ld7 _ fun _ => slabs_st7 _ (by decide) rfl (cast_slabB C 7 (by decide) rfl _) ?_)
  refine slabs_ld0 _ (slabs_ld5 _ fun _ => slabs_st5 _ (by decide) rfl (cast_slabX x 8 (by decide) rfl _) ?_)
  refine slabs_ld2 _ (slabs_ld6 _ fun _ => slabs_st6 _ (by decide) rfl (cast_slabB B 8 (by decide) rfl _) ?_)
  refine slabs_ld3 _ ?_
  refine ret_of ?_
  iintro ⟨HS, HK⟩
  iapply HK $$ %_ [] HS
  ipureintro
  exact cast_slabB C 8 (by decide) rfl _

/-- The eighth part: from chunk 8 of the third block to the load of chunk 10 of the second. -/
theorem part8 (Q : Vec F S8x32x16 .f32 → sProp 𝕄) (v : Vec F S8x32x16 .f32) (hv : k0_pay33 v = slabB C 8) :
    iprop(slabs c x B C arg0 arg2 arg3 arg5 arg6 arg7 9 9 8 ∗ (∀ v' : Vec F S8x32x16 .f32, ⌜k0_pay38 v' = slabB B 10⌝ -∗ slabs c x B C arg0 arg2 arg3 arg5 arg6 arg7 11 10 10 -∗ Q v'))
      ⊢ runs c (k0_part8_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 v) Q := by
  unfold k0_part8_skel
  simp only [Prog.lift, Prog.bind_op, Prog.bind_ret, Prog.pure_eq_ret]
  refine slabs_ld7 _ fun _ => slabs_st7 _ (by decide) rfl hv ?_
  refine slabs_ld0 _ (slabs_ld5 _ fun _ => slabs_st5 _ (by decide) rfl (cast_slabX x 9 (by decide) rfl _) ?_)
  refine slabs_ld2 _ (slabs_ld6 _ fun _ => slabs_st6 _ (by decide) rfl (cast_slabB B 9 (by decide) rfl _) ?_)
  refine slabs_ld3 _ (slabs_ld7 _ fun _ => slabs_st7 _ (by decide) rfl (cast_slabB C 9 (by decide) rfl _) ?_)
  refine slabs_ld0 _ (slabs_ld5 _ fun _ => slabs_st5 _ (by decide) rfl (cast_slabX x 10 (by decide) rfl _) ?_)
  refine slabs_ld2 _ ?_
  refine ret_of ?_
  iintro ⟨HS, HK⟩
  iapply HK $$ %_ [] HS
  ipureintro
  exact cast_slabB B 10 (by decide) rfl _

/-- The ninth part: from chunk 10 of the second block to the load of chunk 11 of the third. -/
theorem part9 (Q : Vec F S8x32x1x16 .f32 → sProp 𝕄) (v : Vec F S8x32x16 .f32) (hv : k0_pay38 v = slabB B 10) :
    iprop(slabs c x B C arg0 arg2 arg3 arg5 arg6 arg7 11 10 10 ∗ (∀ v' : Vec F S8x32x1x16 .f32, ⌜v' = slabB C 11⌝ -∗ slabs c x B C arg0 arg2 arg3 arg5 arg6 arg7 12 12 11 -∗ Q v'))
      ⊢ runs c (k0_part9_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 v) Q := by
  unfold k0_part9_skel
  simp only [Prog.lift, Prog.bind_op, Prog.bind_ret, Prog.pure_eq_ret]
  refine slabs_ld6 _ fun _ => slabs_st6 _ (by decide) rfl hv ?_
  refine slabs_ld3 _ (slabs_ld7 _ fun _ => slabs_st7 _ (by decide) rfl (cast_slabB C 10 (by decide) rfl _) ?_)
  refine slabs_ld0 _ (slabs_ld5 _ fun _ => slabs_st5 _ (by decide) rfl (cast_slabX x 11 (by decide) rfl _) ?_)
  refine slabs_ld2 _ (slabs_ld6 _ fun _ => slabs_st6 _ (by decide) rfl (cast_slabB B 11 (by decide) rfl _) ?_)
  refine slabs_ld3 _ (slabs_ld7 _ fun _ => ?_)
  refine ret_of ?_
  iintro ⟨HS, HK⟩
  iapply HK $$ %_ [] HS
  ipureintro
  exact cast_slabB C 11 (by decide) rfl _

/-- The tenth part: from chunk 11 of the third block to the load of chunk 13 of the second. -/
theorem part10 (Q : Vec F S8x32x16 .f32 → sProp 𝕄) (v : Vec F S8x32x1x16 .f32) (hv : v = slabB C 11) :
    iprop(slabs c x B C arg0 arg2 arg3 arg5 arg6 arg7 12 12 11 ∗ (∀ v' : Vec F S8x32x16 .f32, ⌜k0_pay48 v' = slabB B 13⌝ -∗ slabs c x B C arg0 arg2 arg3 arg5 arg6 arg7 14 13 13 -∗ Q v'))
      ⊢ runs c (k0_part10_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 v) Q := by
  unfold k0_part10_skel
  simp only [Prog.lift, Prog.bind_op, Prog.bind_ret, Prog.pure_eq_ret]
  refine slabs_st7 _ (by decide) rfl hv ?_
  refine slabs_ld0 _ (slabs_ld5 _ fun _ => slabs_st5 _ (by decide) rfl (cast_slabX x 12 (by decide) rfl _) ?_)
  refine slabs_ld2 _ (slabs_ld6 _ fun _ => slabs_st6 _ (by decide) rfl (cast_slabB B 12 (by decide) rfl _) ?_)
  refine slabs_ld3 _ (slabs_ld7 _ fun _ => slabs_st7 _ (by decide) rfl (cast_slabB C 12 (by decide) rfl _) ?_)
  refine slabs_ld0 _ (slabs_ld5 _ fun _ => slabs_st5 _ (by decide) rfl (cast_slabX x 13 (by decide) rfl _) ?_)
  refine slabs_ld2 _ ?_
  refine ret_of ?_
  iintro ⟨HS, HK⟩
  iapply HK $$ %_ [] HS
  ipureintro
  exact cast_slabB B 13 (by decide) rfl _

/-- The eleventh part: from chunk 13 of the second block to chunk 14 of the third. -/
theorem part11 (Q : PUnit → sProp 𝕄) (v : Vec F S8x32x16 .f32) (hv : k0_pay48 v = slabB B 13) :
    iprop(slabs c x B C arg0 arg2 arg3 arg5 arg6 arg7 14 13 13 ∗ (slabs c x B C arg0 arg2 arg3 arg5 arg6 arg7 15 15 15 -∗ Q ⟨⟩))
      ⊢ runs c (k0_part11_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 v) Q := by
  unfold k0_part11_skel
  simp only [Prog.lift, Prog.bind_op, Prog.bind_ret, Prog.pure_eq_ret]
  refine slabs_ld6 _ fun _ => slabs_st6 _ (by decide) rfl hv ?_
  refine slabs_ld3 _ (slabs_ld7 _ fun _ => slabs_st7 _ (by decide) rfl (cast_slabB C 13 (by decide) rfl _) ?_)
  refine slabs_ld0 _ (slabs_ld5 _ fun _ => slabs_st5 _ (by decide) rfl (cast_slabX x 14 (by decide) rfl _) ?_)
  refine slabs_ld2 _ (slabs_ld6 _ fun _ => slabs_st6 _ (by decide) rfl (cast_slabB B 14 (by decide) rfl _) ?_)
  refine slabs_ld3 _ (slabs_ld7 _ fun _ => slabs_st7 _ (by decide) rfl (cast_slabB C 14 (by decide) rfl _) ?_)
  refine ret_of ?_
  iintro ⟨HS, HK⟩
  iapply HK $$ HS

end Copy

end Cert.KernelIdeal.Scan

end
-- ==== Proof.Ideal.Steps.lean ====
/-
  THE LOOPS: the recurrence over the steps of all chunks, the combination of the chunk ends, and the fold of the
  entering state's correction into the outputs.
-/
module

public import proofs.«01_k».proof.Proof.Ideal.Copy

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

/-! ## Windows -/

/-- The window of the whole is the whole. -/
theorem window_full {s : Shape} (X : Vec F s .f32) {off : Fin s.rank → ℕ} (h : ∀ a, off a = 0) (inb : ∀ a, off a + s.size a ≤ s.size a) :
    window X off s.size inb = X := by
  funext i
  unfold window
  refine congrArg X (funext fun a => Fin.ext ?_)
  show off a + 1 * (i a).val = (i a).val
  rw [h a]; omega

/-- A put over the whole leaves the payload. -/
theorem put_full {s : Shape} (X w : Vec F s .f32) {off : Fin s.rank → ℕ} (h : ∀ a, off a = 0) :
    put X off s.size w = w := by
  funext i
  unfold put
  split
  · refine congrArg w (funext fun a => Fin.ext ?_)
    show (i a).val - off a = (i a).val
    rw [h a]; omega
  · rename_i hn
    refine absurd (fun a => ?_) hn
    rw [h a]
    have := (i a).isLt
    omega

/-- The window at step `k` is the step of every chunk (512 lanes). -/
theorem window_rowX (X : Vec F S8x32x16x512 .f32) (k : ℕ) (hk : k < 32) (inb : ∀ a, (![0, k, 0, 0] : Fin 4 → ℕ) a + S8x1x16x512.size a ≤ S8x32x16x512.size a) :
    window (s := S8x32x16x512) X ![0, k, 0, 0] S8x1x16x512.size inb = rowX k X := by
  funext i
  unfold window rowX
  have l1 : (i 1).val < 1 := (i 1).isLt
  refine congrArg X (funext fun a => Fin.ext ?_)
  match a with
  | ⟨0, _⟩ => show 0 + 1 * _ = _; simp
  | ⟨1, _⟩ => show k + 1 * (i 1).val = k % 32; omega
  | ⟨2, _⟩ => show 0 + 1 * _ = _; simp
  | ⟨3, _⟩ => show 0 + 1 * _ = _; simp

/-- The window at step `k` is the step of every chunk (16 lanes). -/
theorem window_rowB (X : Vec F S8x32x16x16 .f32) (k : ℕ) (hk : k < 32) (inb : ∀ a, (![0, k, 0, 0] : Fin 4 → ℕ) a + S8x1x16x16.size a ≤ S8x32x16x16.size a) :
    window (s := S8x32x16x16) X ![0, k, 0, 0] S8x1x16x16.size inb = rowB k X := by
  funext i
  unfold window rowB
  have l1 : (i 1).val < 1 := (i 1).isLt
  refine congrArg X (funext fun a => Fin.ext ?_)
  match a with
  | ⟨0, _⟩ => show 0 + 1 * _ = _; simp
  | ⟨1, _⟩ => show k + 1 * (i 1).val = k % 32; omega
  | ⟨2, _⟩ => show 0 + 1 * _ = _; simp
  | ⟨3, _⟩ => show 0 + 1 * _ = _; simp

/-- The window at chunk `k` of a per-chunk state is the chunk. -/
theorem window_rowC (X : Vec F S8x16x16x512 .f32) (k : ℕ) (hk : k < 16) (inb : ∀ a, (![0, k, 0, 0] : Fin 4 → ℕ) a + S8x1x16x512.size a ≤ S8x16x16x512.size a) :
    window (s := S8x16x16x512) X ![0, k, 0, 0] S8x1x16x512.size inb = rowC k X := by
  funext i
  unfold window rowC
  have l1 : (i 1).val < 1 := (i 1).isLt
  refine congrArg X (funext fun a => Fin.ext ?_)
  match a with
  | ⟨0, _⟩ => show 0 + 1 * _ = _; simp
  | ⟨1, _⟩ => show k + 1 * (i 1).val = k % 16; omega
  | ⟨2, _⟩ => show 0 + 1 * _ = _; simp
  | ⟨3, _⟩ => show 0 + 1 * _ = _; simp

/-- A put at step `k`, at the step and beside it. -/
theorem put_row (X : Vec F S8x32x16x512 .f32) (k : ℕ) (w : Vec F S8x1x16x512 .f32) (i : S8x32x16x512.Idx) :
    put (s := S8x32x16x512) X ![0, k, 0, 0] S8x1x16x512.size w i = if (i 1).val = k then w (ix4 (i 0) (0 : Fin 1) (i 2) (i 3)) else X i := by
  have l0 : (i 0).val < 8 := (i 0).isLt
  have l2 : (i 2).val < 16 := (i 2).isLt
  have l3 : (i 3).val < 512 := (i 3).isLt
  unfold put
  split
  · rename_i h
    have a1 : k ≤ (i 1).val ∧ (i 1).val < k + 1 := h 1
    rw [if_pos (by omega)]
    refine congrArg w (funext fun a => Fin.ext ?_)
    match a with
    | ⟨0, _⟩ => show (i 0).val - 0 = (i 0).val; omega
    | ⟨1, _⟩ => show (i 1).val - k = 0; omega
    | ⟨2, _⟩ => show (i 2).val - 0 = (i 2).val; omega
    | ⟨3, _⟩ => show (i 3).val - 0 = (i 3).val; omega
  · rename_i h
    refine (if_neg fun e => h fun a => ?_).symm
    match a with
    | ⟨0, _⟩ => show 0 ≤ (i 0).val ∧ (i 0).val < 0 + 8; omega
    | ⟨1, _⟩ => show k ≤ (i 1).val ∧ (i 1).val < k + 1; omega
    | ⟨2, _⟩ => show 0 ≤ (i 2).val ∧ (i 2).val < 0 + 16; omega
    | ⟨3, _⟩ => show 0 ≤ (i 3).val ∧ (i 3).val < 0 + 512; omega

/-- A put at chunk `k` of a per-chunk state, at the chunk and beside it. -/
theorem put_chunk (X : Vec F S8x16x16x512 .f32) (k : ℕ) (w : Vec F S8x1x16x512 .f32) (i : S8x16x16x512.Idx) :
    put (s := S8x16x16x512) X ![0, k, 0, 0] S8x1x16x512.size w i = if (i 1).val = k then w (ix4 (i 0) (0 : Fin 1) (i 2) (i 3)) else X i := by
  have l0 : (i 0).val < 8 := (i 0).isLt
  have l2 : (i 2).val < 16 := (i 2).isLt
  have l3 : (i 3).val < 512 := (i 3).isLt
  unfold put
  split
  · rename_i h
    have a1 : k ≤ (i 1).val ∧ (i 1).val < k + 1 := h 1
    rw [if_pos (by omega)]
    refine congrArg w (funext fun a => Fin.ext ?_)
    match a with
    | ⟨0, _⟩ => show (i 0).val - 0 = (i 0).val; omega
    | ⟨1, _⟩ => show (i 1).val - k = 0; omega
    | ⟨2, _⟩ => show (i 2).val - 0 = (i 2).val; omega
    | ⟨3, _⟩ => show (i 3).val - 0 = (i 3).val; omega
  · rename_i h
    refine (if_neg fun e => h fun a => ?_).symm
    match a with
    | ⟨0, _⟩ => show 0 ≤ (i 0).val ∧ (i 0).val < 0 + 8; omega
    | ⟨1, _⟩ => show k ≤ (i 1).val ∧ (i 1).val < k + 1; omega
    | ⟨2, _⟩ => show 0 ≤ (i 2).val ∧ (i 2).val < 0 + 16; omega
    | ⟨3, _⟩ => show 0 ≤ (i 3).val ∧ (i 3).val < 0 + 512; omega

/-! ## The loops -/

/-- The memref at some contents. -/
def anyOf {s : Shape} (c : Dev nD) (m : Memref sig .tc .vmem s .f32) : sProp 𝕄 := iprop(∃ X : Vec F s .f32, hold c m X)

section Loops

variable (c : Dev nD) (x : Vec F S8x512x512 .f32) (A : Vec F S512x16 .f32) (B C : Vec F S8x512x16 .f32) (carry : Vec F S8x16x512 .f32)
variable (arg0 : Memref sig .tc .vmem S8x512x512 .f32) (harg0 : arg0.IsWhole) (arg1 : Memref sig .tc .vmem S512x16 .f32) (harg1 : arg1.IsWhole) (arg2 : Memref sig .tc .vmem S8x512x16 .f32) (harg2 : arg2.IsWhole) (arg3 : Memref sig .tc .vmem S8x512x16 .f32) (harg3 : arg3.IsWhole) (arg4 : Memref sig .tc .vmem S8x512x512 .f32) (harg4 : arg4.IsWhole)
  (arg5 : Memref sig .tc .vmem S8x32x16x512 .f32) (harg5 : arg5.IsWhole) (arg6 : Memref sig .tc .vmem S8x32x16x16 .f32) (harg6 : arg6.IsWhole) (arg7 : Memref sig .tc .vmem S8x32x16x16 .f32) (harg7 : arg7.IsWhole) (arg8 : Memref sig .tc .vmem S8x32x16x512 .f32) (harg8 : arg8.IsWhole)
  (arg9 : Memref sig .tc .vmem S8x16x16x512 .f32) (harg9 : arg9.IsWhole) (arg10 : Memref sig .tc .vmem S8x16x16x512 .f32) (harg10 : arg10.IsWhole) (arg11 : Memref sig .tc .vmem S8x16x512 .f32) (harg11 : arg11.IsWhole) (arg12 : Memref sig .tc .vmem S8x16x512 .f32) (harg12 : arg12.IsWhole) (arg13 : Memref sig .tc .vmem S8x16x512 .f32) (harg13 : arg13.IsWhole)
  (arg14 : DmaSems sig S_) (arg15 : DmaSems sig S_)

/-- The recurrence's invariant: after `k` steps the state is the one after `k` steps, and the outputs of the steps
before `k` are stored. -/
def inv1 (k : ℕ) (_ : Unit) : sProp 𝕄 :=
  iprop(hold c arg5 (chX x) ∗ hold c arg6 (chB B) ∗ hold c arg7 (chB C) ∗ hold c arg9 (hst x A B k)
    ∗ ∃ Y : Vec F S8x32x16x512 .f32, ⌜∀ i : S8x32x16x512.Idx, (i 1).val < k → Y i = yown x A B C i⌝ ∗ hold c arg8 Y)

/-- A trip of the recurrence keeps its invariant. -/
theorem trip1 (v39 : Vec F S16x512 .f32) (k : Fin k0_t1_loop.trips) (acc : Unit) :
    inv1 c x A B C arg5 arg6 arg7 arg8 arg9 k.val acc
      ⊢ runs c (k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 (k0_pay1 A) v39 k acc) (inv1 c x A B C arg5 arg6 arg7 arg8 arg9 (k.val + 1)) := by
  have hk : k.val < 32 := Nat.lt_of_lt_of_le k.isLt k0_t1_abs.2.1
  unfold k0_t1_body inv1
  simp only [Prog.lift, Prog.bind_op, Prog.bind_ret, Prog.pure_eq_ret]
  iintro ⟨H5, H6, H7, H9, %Y, %hY, H8⟩
  iapply (wp_ld c arg5 _ _ _ (k0_off1_eq k) (k0_off1_eq k ▸ k0_off1_inb k)) $$ H5
  iintro H5
  iapply (wp_ld c arg6 _ _ _ (k0_off2_eq k) (k0_off2_eq k ▸ k0_off2_inb k)) $$ H6
  iintro H6
  iapply (wp_ld c arg7 _ _ _ (k0_off2_eq k) (k0_off2_eq k ▸ k0_off2_inb k)) $$ H7
  iintro H7
  rw [window_rowX _ _ hk, window_rowB _ _ hk, window_rowB _ _ hk]
  iapply (wp_ld c arg9 _ _ _ rfl inb_S8x16x16x512_S8x16x16x512_0_0_0_0) $$ H9
  iintro H9
  iapply (wp_ld c arg9 _ _ _ rfl inb_S8x16x16x512_S8x16x16x512_0_0_0_0) $$ H9
  iintro H9
  iapply (wp_st c arg9 _ _ _ rfl _) $$ H9
  iintro H9
  rw [window_full _ (by decide), put_full _ _ (by decide)]
  iapply (wp_ld c arg8 _ _ _ rfl (k0_off1_inb k)) $$ H8
  iintro H8
  iapply (wp_st c arg8 _ _ _ (k0_off1_eq k) _) $$ H8
  iintro H8
  rw [wp_ret]
  imodintro
  isplitl [H5]; · iexact H5
  isplitl [H6]; · iexact H6
  isplitl [H7]; · iexact H7
  isplitl [H9]; · iexact H9
  iexists _
  isplitr
  rotate_left
  · iexact H8
  · ipureintro
    intro i hi
    rw [put_row]
    split
    · rename_i e
      unfold yown
      rw [e]
    · exact hY i (by omega)

/-- The combination's invariant: after `k` chunks the state is the one entering chunk `k`, and the states entering
the chunks before `k` are stored. -/
def inv2 (k : ℕ) (acc : Vec F S8x16x512 .f32) : sProp 𝕄 :=
  iprop(⌜acc = pst x A B k⌝ ∗ hold c arg9 (hst x A B 32)
    ∗ ∃ P : Vec F S8x16x16x512 .f32, ⌜∀ i : S8x16x16x512.Idx, (i 1).val < k → P i = pall x A B i⌝ ∗ hold c arg10 P)

/-- A trip of the combination keeps its invariant. -/
theorem trip2 (v33 : Vec F S16x512 .f32) (k : Fin k0_t2_loop.trips) (acc : Vec F S8x16x512 .f32) :
    inv2 c x A B arg9 arg10 k.val acc
      ⊢ runs c (k0_t2_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 v33 (k0_pay2 A) k acc) (inv2 c x A B arg9 arg10 (k.val + 1)) := by
  have hk : k.val < 16 := Nat.lt_of_lt_of_le k.isLt k0_t2_abs.2.1
  unfold k0_t2_body inv2
  simp only [Prog.lift, Prog.bind_op, Prog.bind_ret, Prog.pure_eq_ret]
  iintro ⟨%hacc, H9, %P, %hP, H10⟩
  subst hacc
  iapply (wp_ld c arg10 _ _ _ rfl (k0_off3_inb k)) $$ H10
  iintro H10
  iapply (wp_st c arg10 _ _ _ (k0_off3_eq k) _) $$ H10
  iintro H10
  iapply (wp_ld c arg9 _ _ _ (k0_off3_eq k) (k0_off3_eq k ▸ k0_off3_inb k)) $$ H9
  iintro H9
  rw [window_rowC _ _ hk, wp_ret]
  imodintro
  isplitr; · (ipureintro; rfl)
  isplitl [H9]; · iexact H9
  iexists _
  isplitr
  rotate_left
  · iexact H10
  · ipureintro
    intro i hi
    rw [put_chunk]
    split
    · rename_i e
      unfold pall
      rw [e]
    · exact hP i (by omega)

/-- The fold's invariant: after `k` steps the correction is the one after `k` steps, and the outputs of the steps
before `k` are corrected. -/
def inv3 (k : ℕ) (_ : Unit) : sProp 𝕄 :=
  iprop(hold c arg7 (chB C) ∗ hold c arg9 (mst x A B carry k)
    ∗ ∃ Y : Vec F S8x32x16x512 .f32, ⌜∀ i : S8x32x16x512.Idx, Y i = if (i 1).val < k then yall x A B C carry i else yown x A B C i⌝ ∗ hold c arg8 Y)

/-- A trip of the fold keeps its invariant. -/
theorem trip3 (v318 v319 : Vec F S8x16x16x512 .f32) (k : Fin k0_t3_loop.trips) (acc : Unit) :
    inv3 c x A B C carry arg7 arg8 arg9 k.val acc
      ⊢ runs c (k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 (k0_pay1 A) v318 v319 k acc) (inv3 c x A B C carry arg7 arg8 arg9 (k.val + 1)) := by
  have hk : k.val < 32 := Nat.lt_of_lt_of_le k.isLt k0_t3_abs.2.1
  unfold k0_t3_body inv3
  simp only [Prog.lift, Prog.bind_op, Prog.bind_ret, Prog.pure_eq_ret]
  iintro ⟨H7, H9, %Y, %hY, H8⟩
  iapply (wp_ld c arg9 _ _ _ rfl inb_S8x16x16x512_S8x16x16x512_0_0_0_0) $$ H9
  iintro H9
  iapply (wp_ld c arg9 _ _ _ rfl inb_S8x16x16x512_S8x16x16x512_0_0_0_0) $$ H9
  iintro H9
  iapply (wp_st c arg9 _ _ _ rfl _) $$ H9
  iintro H9
  rw [window_full _ (by decide), put_full _ _ (by decide)]
  iapply (wp_ld c arg7 _ _ _ (k0_off4_eq k) (k0_off4_eq k ▸ k0_off4_inb k)) $$ H7
  iintro H7
  iapply (wp_ld c arg8 _ _ _ (k0_off5_eq k) (k0_off5_eq k ▸ k0_off5_inb k)) $$ H8
  iintro H8
  rw [window_rowB _ _ hk, window_rowX _ _ hk]
  have hrow : rowX k.val Y = rowX k.val (yown x A B C) := by
    funext i
    unfold rowX
    rw [hY, if_neg]
    show ¬ k.val % 32 < k.val
    omega
  rw [hrow]
  iapply (wp_ld c arg8 _ _ _ rfl (k0_off5_inb k)) $$ H8
  iintro H8
  iapply (wp_st c arg8 _ _ _ (k0_off5_eq k) _) $$ H8
  iintro H8
  rw [wp_ret]
  imodintro
  isplitl [H7]; · iexact H7
  isplitl [H9]; · iexact H9
  iexists _
  isplitr
  rotate_left
  · iexact H8
  · ipureintro
    intro i
    rw [put_row]
    split
    · rename_i e
      rw [if_pos (by omega)]
      unfold yall
      rw [e]
    · rename_i e
      rw [hY i]
      by_cases h : (i 1).val < k.val
      · rw [if_pos h, if_pos (by omega)]
      · rw [if_neg h, if_neg (by omega)]

end Loops

end Cert.KernelIdeal.Scan

end
-- ==== Proof.Ideal.Parts.lean ====
/-
  THE BODY'S PARTS that touch no semaphore: the start of the copy, the two loops that follow it, the fold of the
  correction, and the copy of the outputs back to time order.
-/
module

public import proofs.«01_k».proof.Proof.Ideal.Steps

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

/-- A buffer filled on all sixteen chunks holds the layout by chunks (512 lanes). -/
theorem fillX_full (c : Dev nD) (m : Memref sig .tc .vmem S8x32x16x512 .f32) (x : Vec F S8x512x512 .f32) : fillX c m x 16 ⊢ hold c m (chX x) := by
  unfold fillX
  iintro ⟨%X, %hX, H⟩
  have e : X = chX x := funext fun i => hX i (i 2).isLt
  rw [e]
  iexact H

/-- A buffer filled on all sixteen chunks holds the layout by chunks (16 lanes). -/
theorem fillB_full (c : Dev nD) (m : Memref sig .tc .vmem S8x32x16x16 .f32) (b : Vec F S8x512x16 .f32) : fillB c m b 16 ⊢ hold c m (chB b) := by
  unfold fillB
  iintro ⟨%X, %hX, H⟩
  have e : X = chB b := funext fun i => hX i (i 2).isLt
  rw [e]
  iexact H

/-- An output block filled on all sixteen chunks holds the outputs in time order. -/
theorem fillY_full (c : Dev nD) (m : Memref sig .tc .vmem S8x512x512 .f32) (y : Vec F S8x32x16x512 .f32) : fillY c m y 16 ⊢ hold c m (unch y) := by
  unfold fillY
  iintro ⟨%X, %hX, H⟩
  have e : X = unch y := funext fun i => hX i (i 1).isLt
  rw [e]
  iexact H

/-- A buffer at any contents is filled on no chunk (512 lanes). -/
theorem fillX_none (c : Dev nD) (m : Memref sig .tc .vmem S8x32x16x512 .f32) (x : Vec F S8x512x512 .f32) : anyOf (F := F) c m ⊢ fillX c m x 0 := by
  unfold fillX anyOf
  iintro ⟨%X, H⟩
  iexists X
  isplitr; · (ipureintro; intro i hi; exact absurd hi (Nat.not_lt_zero _))
  iexact H

/-- A buffer at any contents is filled on no chunk (16 lanes). -/
theorem fillB_none (c : Dev nD) (m : Memref sig .tc .vmem S8x32x16x16 .f32) (b : Vec F S8x512x16 .f32) : anyOf (F := F) c m ⊢ fillB c m b 0 := by
  unfold fillB anyOf
  iintro ⟨%X, H⟩
  iexists X
  isplitr; · (ipureintro; intro i hi; exact absurd hi (Nat.not_lt_zero _))
  iexact H

/-- A block at any contents is filled on no chunk. -/
theorem fillY_none (c : Dev nD) (m : Memref sig .tc .vmem S8x512x512 .f32) (y : Vec F S8x32x16x512 .f32) : anyOf (F := F) c m ⊢ fillY c m y 0 := by
  unfold fillY anyOf
  iintro ⟨%X, H⟩
  iexists X
  isplitr; · (ipureintro; intro i hi; exact absurd hi (Nat.not_lt_zero _))
  iexact H

/-- A loop at the head of a program, by an invariant. -/
theorem loop_bind {σ β : Type} (c : Dev nD) (L : Scf.Loop 32) (ok : L.OK) (init : σ) (body : Fin L.trips → σ → Prog (TpuEff nD τ sig (Elt F) Λ₀ .tc) σ)
    (I : ℕ → σ → sProp 𝕄) (hbody : ∀ k acc, I k.val acc ⊢ runs c (body k acc) (I (k.val + 1)))
    {kk : σ → Prog (TpuEff nD τ sig (Elt F) Λ₀ .tc) β} {Q : β → sProp 𝕄} :
    I 0 init ⊢ iprop((∀ acc, I L.trips acc -∗ runs c (kk acc) Q) -∗ runs c (Scf.Loop.for L ok init body >>= kk) Q) :=
  Scf.wp_for_bind frame (wpE (defs₀ (F := F)) 𝒱₀ (c : Thread nD τ) none) Set.univ L.lb L.ub L.st ok init body I hbody

/-- A loop at the end of a program, by an invariant. -/
theorem loop_last {σ : Type} (c : Dev nD) (L : Scf.Loop 32) (ok : L.OK) (init : σ) (body : Fin L.trips → σ → Prog (TpuEff nD τ sig (Elt F) Λ₀ .tc) σ)
    (I : ℕ → σ → sProp 𝕄) (hbody : ∀ k acc, I k.val acc ⊢ runs c (body k acc) (I (k.val + 1))) {Q : σ → sProp 𝕄} :
    I 0 init ⊢ iprop((∀ acc, I L.trips acc -∗ Q acc) -∗ runs c (Scf.Loop.for L ok init body) Q) := by
  iintro HI HK
  iapply (Scf.wp_for frame (wpE (defs₀ (F := F)) 𝒱₀ (c : Thread nD τ) none) Set.univ L.lb L.ub L.st ok init body I hbody)
  isplitl [HI]; · iexact HI
  iexact HK

/-- A loop at the head of a program, beside what it does not touch. -/
theorem loop_of {σ β : Type} {c : Dev nD} {L : Scf.Loop 32} {ok : L.OK} {init : σ} {body : Fin L.trips → σ → Prog (TpuEff nD τ sig (Elt F) Λ₀ .tc) σ}
    (I : ℕ → σ → sProp 𝕄) (hbody : ∀ k acc, I k.val acc ⊢ runs c (body k acc) (I (k.val + 1))) {P R : sProp 𝕄}
    {kk : σ → Prog (TpuEff nD τ sig (Elt F) Λ₀ .tc) β} {Q : β → sProp 𝕄}
    (hP : P ⊢ iprop(I 0 init ∗ R)) (hk : ∀ acc, iprop(I L.trips acc ∗ R) ⊢ runs c (kk acc) Q) :
    P ⊢ runs c (Scf.Loop.for L ok init body >>= kk) Q := by
  refine hP.trans ?_
  iintro ⟨HI, HR⟩
  iapply (loop_bind c L ok init body I hbody) $$ HI
  iintro %acc HI
  iapply (hk acc)
  isplitl [HI]; · iexact HI
  iexact HR

section Parts

variable (c : Dev nD) (x : Vec F S8x512x512 .f32) (A : Vec F S512x16 .f32) (B C : Vec F S8x512x16 .f32) (carry : Vec F S8x16x512 .f32)
variable (arg0 : Memref sig .tc .vmem S8x512x512 .f32) (harg0 : arg0.IsWhole) (arg1 : Memref sig .tc .vmem S512x16 .f32) (harg1 : arg1.IsWhole) (arg2 : Memref sig .tc .vmem S8x512x16 .f32) (harg2 : arg2.IsWhole) (arg3 : Memref sig .tc .vmem S8x512x16 .f32) (harg3 : arg3.IsWhole) (arg4 : Memref sig .tc .vmem S8x512x512 .f32) (harg4 : arg4.IsWhole)
  (arg5 : Memref sig .tc .vmem S8x32x16x512 .f32) (harg5 : arg5.IsWhole) (arg6 : Memref sig .tc .vmem S8x32x16x16 .f32) (harg6 : arg6.IsWhole) (arg7 : Memref sig .tc .vmem S8x32x16x16 .f32) (harg7 : arg7.IsWhole) (arg8 : Memref sig .tc .vmem S8x32x16x512 .f32) (harg8 : arg8.IsWhole)
  (arg9 : Memref sig .tc .vmem S8x16x16x512 .f32) (harg9 : arg9.IsWhole) (arg10 : Memref sig .tc .vmem S8x16x16x512 .f32) (harg10 : arg10.IsWhole) (arg11 : Memref sig .tc .vmem S8x16x512 .f32) (harg11 : arg11.IsWhole) (arg12 : Memref sig .tc .vmem S8x16x512 .f32) (harg12 : arg12.IsWhole) (arg13 : Memref sig .tc .vmem S8x16x512 .f32) (harg13 : arg13.IsWhole)
  (arg14 : DmaSems sig S_) (arg15 : DmaSems sig S_)

/-- The second part: the decays, and chunk 0 of the three blocks. -/
theorem part2 (Q : (Σ' (v33 : Vec F S16x512 .f32) (v39 : Vec F S16x512 .f32), Vec F S8x32x512 .f32) → sProp 𝕄) :
    iprop(slabs c x B C arg0 arg2 arg3 arg5 arg6 arg7 0 0 0 ∗ hold c arg1 A
        ∗ (∀ v : Vec F S8x32x512 .f32, ⌜k0_pay7 v = slabX x 1⌝ -∗ slabs c x B C arg0 arg2 arg3 arg5 arg6 arg7 1 1 1 -∗ hold c arg1 A -∗ Q ⟨k0_pay1 A, k0_pay2 A, v⟩))
      ⊢ runs c (k0_part2_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15) Q := by
  unfold k0_part2_skel
  simp only [Prog.lift, Prog.bind_op, Prog.bind_ret, Prog.pure_eq_ret]
  refine ld_of (X := A) ?_ inb_S512x16_S512x16_0_0 rfl inb_S512x16_S512x16_0_0 (ld_of (X := A) ?_ inb_S512x16_S512x16_0_0 rfl inb_S512x16_S512x16_0_0 ?_)
  iterate 2
    iintro ⟨HS, H1, HK⟩
    isplitl [H1]; · iexact H1
    iintro H1
    isplitl [HS]; · iexact HS
    isplitl [H1]; · iexact H1
    iexact HK
  refine slabs_ld0 _ (slabs_ld5 _ fun _ => slabs_st5 _ (by decide) rfl (cast_slabX x 0 (by decide) rfl _) ?_)
  refine slabs_ld2 _ (slabs_ld6 _ fun _ => slabs_st6 _ (by decide) rfl (cast_slabB B 0 (by decide) rfl _) ?_)
  refine slabs_ld3 _ (slabs_ld7 _ fun _ => slabs_st7 _ (by decide) rfl (cast_slabB C 0 (by decide) rfl _) ?_)
  refine slabs_ld0 _ (ret_of ?_)
  rw [window_full A (by decide)]
  iintro ⟨HS, H1, HK⟩
  iapply HK $$ %_ [] HS H1
  ipureintro
  exact cast_slabX x 1 (by decide) rfl _

/-- The twelfth part: chunk 15 of the three blocks, the recurrence of all chunks, and the combination of their ends. -/
theorem part12 (Q : Vec F S8x16x512 .f32 → sProp 𝕄) :
    iprop(slabs c x B C arg0 arg2 arg3 arg5 arg6 arg7 15 15 15 ∗ anyOf (F := F) c arg8 ∗ anyOf (F := F) c arg9 ∗ anyOf (F := F) c arg10
        ∗ (hold c arg0 x -∗ hold c arg2 B -∗ hold c arg3 C -∗ hold c arg5 (chX x) -∗ hold c arg6 (chB B) -∗ hold c arg7 (chB C)
          -∗ hold c arg8 (yown x A B C) -∗ hold c arg9 (hst x A B 32) -∗ hold c arg10 (pall x A B) -∗ Q (pst x A B 16)))
      ⊢ runs c (k0_part12_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 (k0_pay1 A) (k0_pay2 A)) Q := by
  unfold k0_part12_skel
  simp only [Prog.lift, Prog.bind_op, Prog.bind_ret, Prog.pure_eq_ret]
  refine slabs_ld0 _ (slabs_ld5 _ fun _ => slabs_st5 _ (by decide) rfl (cast_slabX x 15 (by decide) rfl _) ?_)
  refine slabs_ld2 _ (slabs_ld6 _ fun _ => slabs_st6 _ (by decide) rfl (cast_slabB B 15 (by decide) rfl _) ?_)
  refine slabs_ld3 _ (slabs_ld7 _ fun _ => slabs_st7 _ (by decide) rfl (cast_slabB C 15 (by decide) rfl _) ?_)
  unfold slabs anyOf
  iintro ⟨⟨H0, H2, H3, H5, H6, H7⟩, ⟨%Y, H8⟩, ⟨%H, H9⟩, ⟨%P, H10⟩, HK⟩
  ihave H5 := (fillX_full c arg5 x) $$ H5
  ihave H6 := (fillB_full c arg6 B) $$ H6
  ihave H7 := (fillB_full c arg7 C) $$ H7
  iapply (wp_ld c arg9 _ _ _ rfl inb_S8x16x16x512_S8x16x16x512_0_0_0_0) $$ H9
  iintro H9
  iapply (wp_st c arg9 _ _ _ rfl _) $$ H9
  iintro H9
  rw [put_full _ _ (by decide)]
  iapply (loop_bind c k0_t1_loop k0_t1_ok _ _ (inv1 c x A B C arg5 arg6 arg7 arg8 arg9) (fun k acc => trip1 c x A B C arg0 harg0 arg1 harg1 arg2 harg2 arg3 harg3 arg4 harg4 arg5 harg5 arg6 harg6 arg7 harg7 arg8 harg8 arg9 harg9 arg10 harg10 arg11 harg11 arg12 harg12 arg13 harg13 arg14 arg15 (k0_pay2 A) k acc)) $$ [H5 H6 H7 H8 H9]
  · unfold inv1
    isplitl [H5]; · iexact H5
    isplitl [H6]; · iexact H6
    isplitl [H7]; · iexact H7
    isplitl [H9]; · iexact H9
    iexists Y
    isplitr; · (ipureintro; intro i hi; exact absurd hi (Nat.not_lt_zero _))
    iexact H8
  iintro %_ HI
  unfold inv1
  icases HI with ⟨H5, H6, H7, H9, %Y', %hY, H8⟩
  have t1 : k0_t1_loop.trips = 32 := by decide
  rw [t1] at hY
  rw [t1]
  iapply (loop_last c k0_t2_loop k0_t2_ok _ _ (inv2 c x A B arg9 arg10) (fun k acc => trip2 c x A B arg0 harg0 arg1 harg1 arg2 harg2 arg3 harg3 arg4 harg4 arg5 harg5 arg6 harg6 arg7 harg7 arg8 harg8 arg9 harg9 arg10 harg10 arg11 harg11 arg12 harg12 arg13 harg13 arg14 arg15 (k0_pay1 A) k acc)) $$ [H9 H10]
  · unfold inv2
    isplitr; · (ipureintro; rfl)
    isplitl [H9]; · iexact H9
    iexists P
    isplitr; · (ipureintro; intro i hi; exact absurd hi (Nat.not_lt_zero _))
    iexact H10
  iintro %v HI
  unfold inv2
  icases HI with ⟨%hv, H9, %P', %hP, H10⟩
  have t2 : k0_t2_loop.trips = 16 := by decide
  rw [t2] at hv hP
  subst hv
  have eY : Y' = yown x A B C := funext fun i => hY i (i 1).isLt
  have eP : P' = pall x A B := funext fun i => hP i (i 1).isLt
  rw [eY, eP]
  iapply HK $$ H0 H2 H3 H5 H6 H7 H8 H9 H10

/-- The outputs in order, and the output block filled with them on so many chunks. -/
def outs (n : ℕ) : sProp 𝕄 := iprop(hold c arg8 (yall x A B C carry) ∗ fillY c arg4 (yall x A B C carry) n)

variable {c x A B C carry arg4 arg8} in
/-- A load of the outputs. -/
theorem outs_ld8 {α : Type} {n : ℕ} {R : sProp 𝕄} {Q : α → sProp 𝕄} {off size : Fin 4 → ℕ} (inb : ∀ a, off a + size a ≤ S8x32x16x512.size a) {hl}
    {k : ((Rect.unit (s := S8x32x16x512) off size inb).toLoadRect.shape.Idx → Elt F .f32) → Prog (TpuEff nD τ sig (Elt F) Λ₀ .tc) α}
    (hk : iprop(outs c x A B C carry arg4 arg8 n ∗ R) ⊢ runs c (k (window (s := S8x32x16x512) (yall x A B C carry) off size inb)) Q) :
    iprop(outs c x A B C carry arg4 arg8 n ∗ R) ⊢ runs c (.op (.load arg8 (Rect.unit (s := S8x32x16x512) off size inb).toLoadRect hl) k) Q := by
  refine ld_of (X := yall x A B C carry) ?_ inb rfl inb hk
  unfold outs
  iintro ⟨⟨H, HS⟩, HR⟩
  isplitl [H]; · iexact H
  iintro H
  isplitr [HR]
  · isplitl [H]; · iexact H
    iexact HS
  · iexact HR

variable {c x A B C carry arg4 arg8} in
/-- A load of the output block whose result is not used. -/
theorem outs_ld4 {α : Type} {n : ℕ} {R : sProp 𝕄} {Q : α → sProp 𝕄} {off size : Fin 3 → ℕ} (inb : ∀ a, off a + size a ≤ S8x512x512.size a) {hl}
    {k : ((Rect.unit (s := S8x512x512) off size inb).toLoadRect.shape.Idx → Elt F .f32) → Prog (TpuEff nD τ sig (Elt F) Λ₀ .tc) α}
    (hk : ∀ v, iprop(outs c x A B C carry arg4 arg8 n ∗ R) ⊢ runs c (k v) Q) :
    iprop(outs c x A B C carry arg4 arg8 n ∗ R) ⊢ runs c (.op (.load arg4 (Rect.unit (s := S8x512x512) off size inb).toLoadRect hl) k) Q := by
  refine ld_any ?_ inb hk
  unfold outs fillY
  iintro ⟨⟨H8, %X, %hX, H⟩, HR⟩
  iexists X
  isplitl [H]; · iexact H
  iintro H
  isplitr [HR]
  · isplitl [H8]; · iexact H8
    iexists X
    isplitr; · (ipureintro; exact hX)
    iexact H
  · iexact HR

variable {c x A B C carry arg4 arg8} in
/-- The store of the next chunk of the outputs. -/
theorem outs_st4 {α : Type} {n : ℕ} {R : sProp 𝕄} {Q : α → sProp 𝕄} {off : Fin 3 → ℕ} (inb : ∀ a, off a + S8x32x512.size a ≤ S8x512x512.size a)
    (hn : n < 16) (h : off = ![0, 32 * n, 0]) {w : Vec F S8x32x512 .f32} (hw : w = slabY (yall x A B C carry) n) {hx} {hm}
    {k : PUnit → Prog (TpuEff nD τ sig (Elt F) Λ₀ .tc) α}
    (hk : iprop(outs c x A B C carry arg4 arg8 (n + 1) ∗ R) ⊢ runs c (k ⟨⟩) Q) :
    iprop(outs c x A B C carry arg4 arg8 n ∗ R) ⊢ runs c (.op (.store arg4 (Rect.unit (s := S8x512x512) off S8x32x512.size inb) w Finset.univ hx hm) k) Q := by
  subst hw
  refine st_of inb h ?_ hk
  unfold outs fillY
  iintro ⟨⟨H8, %X, %hX, H⟩, HR⟩
  iexists X
  isplitl [H]; · iexact H
  iintro H
  isplitr [HR]
  · isplitl [H8]; · iexact H8
    iexists _
    isplitr; · (ipureintro; exact put_slabY (yall x A B C carry) X n hn hX)
    iexact H
  · iexact HR

/-- The fourteenth part: the fold of the correction, and chunks 0 to 3 of the outputs. -/
theorem part14 (v319 : Vec F S8x16x16x512 .f32) (Q : Vec F S8x32x512 .f32 → sProp 𝕄) :
    iprop(hold c arg7 (chB C) ∗ hold c arg8 (yown x A B C) ∗ anyOf (F := F) c arg9 ∗ anyOf (F := F) c arg4
        ∗ (∀ v : Vec F S8x32x512 .f32, ⌜v = slabY (yall x A B C carry) 4⌝ -∗ hold c arg7 (chB C) -∗ hold c arg9 (mst x A B carry 32)
          -∗ outs c x A B C carry arg4 arg8 4 -∗ Q v))
      ⊢ runs c (k0_part14_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 (k0_pay1 A) (k0_pay66 A (pall x A B) carry) v319) Q := by
  unfold k0_part14_skel
  simp only [Prog.lift, Prog.bind_op, Prog.bind_ret, Prog.pure_eq_ret]
  refine st_of (P' := iprop(inv3 c x A B C carry arg7 arg8 arg9 0 () ∗ (anyOf (F := F) c arg4
        ∗ (∀ v : Vec F S8x32x512 .f32, ⌜v = slabY (yall x A B C carry) 4⌝ -∗ hold c arg7 (chB C) -∗ hold c arg9 (mst x A B carry 32)
          -∗ outs c x A B C carry arg4 arg8 4 -∗ Q v)))) _ rfl ?_ ?_
  · iintro ⟨H7, H8, H9, HR⟩
    unfold anyOf
    icases H9 with ⟨%M, H9⟩
    iexists M
    isplitl [H9]; · iexact H9
    iintro H9
    rw [put_full _ _ (by decide)]
    isplitr [HR]
    · unfold inv3
      isplitl [H7]; · iexact H7
      isplitl [H9]; · iexact H9
      iexists _
      isplitr
      rotate_left
      · iexact H8
      · ipureintro
        intro i
        rw [if_neg (Nat.not_lt_zero _)]
    · iexact HR
  refine loop_of (inv3 c x A B C carry arg7 arg8 arg9) (fun k acc => trip3 c x A B C carry arg0 harg0 arg1 harg1 arg2 harg2 arg3 harg3 arg4 harg4 arg5 harg5 arg6 harg6 arg7 harg7 arg8 harg8 arg9 harg9 arg10 harg10 arg11 harg11 arg12 harg12 arg13 harg13 arg14 arg15 _ v319 k acc) .rfl fun _ => ?_
  have t3 : k0_t3_loop.trips = 32 := by decide
  refine BIBase.Entails.trans (Q := iprop(outs c x A B C carry arg4 arg8 0 ∗ (outs c x A B C carry arg4 arg8 4 -∗ Q (slabY (yall x A B C carry) 4)))) ?_ ?_
  · rw [t3]
    unfold inv3
    iintro ⟨⟨H7, H9, %Y, %hY, H8⟩, H4, HK⟩
    have eY : Y = yall x A B C carry := funext fun i => (hY i).trans (if_pos (i 1).isLt)
    rw [eY]
    ihave H4 := (fillY_none c arg4 (yall x A B C carry)) $$ H4
    isplitl [H4 H8]
    · unfold outs
      isplitl [H8]; · iexact H8
      iexact H4
    · iintro HS
      iapply HK $$ %_ [] H7 H9 HS
      ipureintro
      rfl
  refine outs_ld8 _ (outs_ld4 _ fun _ => outs_st4 _ (by decide) rfl (cast_slabY _ 0 (by decide) rfl _) ?_)
  refine outs_ld8 _ (outs_ld4 _ fun _ => outs_st4 _ (by decide) rfl (cast_slabY _ 1 (by decide) rfl _) ?_)
  refine outs_ld8 _ (outs_ld4 _ fun _ => outs_st4 _ (by decide) rfl (cast_slabY _ 2 (by decide) rfl _) ?_)
  refine outs_ld8 _ (outs_ld4 _ fun _ => outs_st4 _ (by decide) rfl (cast_slabY _ 3 (by decide) rfl _) ?_)
  refine outs_ld8 _ (ret_of ?_)
  have e : k0_pay75 (window (s := S8x32x16x512) (yall x A B C carry) ![0, 0, 4, 0] S8x32x1x512.size inb_S8x32x16x512_S8x32x1x512_0_0_4_0) = slabY (yall x A B C carry) 4 :=
    cast_slabY _ 4 (by decide) rfl _
  iintro ⟨HS, HK⟩
  rw [e]
  iapply HK $$ HS

/-- The fifteenth part: chunks 4 to 9 of the outputs. -/
theorem part15 (Q : PUnit → sProp 𝕄) :
    iprop(outs c x A B C carry arg4 arg8 4 ∗ (outs c x A B C carry arg4 arg8 10 -∗ Q ⟨⟩))
      ⊢ runs c (k0_part15_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15 (slabY (yall x A B C carry) 4)) Q := by
  unfold k0_part15_skel
  simp only [Prog.lift, Prog.bind_op, Prog.bind_ret, Prog.pure_eq_ret]
  refine outs_ld4 _ fun _ => outs_st4 _ (by decide) rfl rfl ?_
  refine outs_ld8 _ (outs_ld4 _ fun _ => outs_st4 _ (by decide) rfl (cast_slabY _ 5 (by decide) rfl _) ?_)
  refine outs_ld8 _ (outs_ld4 _ fun _ => outs_st4 _ (by decide) rfl (cast_slabY _ 6 (by decide) rfl _) ?_)
  refine outs_ld8 _ (outs_ld4 _ fun _ => outs_st4 _ (by decide) rfl (cast_slabY _ 7 (by decide) rfl _) ?_)
  refine outs_ld8 _ (outs_ld4 _ fun _ => outs_st4 _ (by decide) rfl (cast_slabY _ 8 (by decide) rfl _) ?_)
  refine outs_ld8 _ (outs_ld4 _ fun _ => outs_st4 _ (by decide) rfl (cast_slabY _ 9 (by decide) rfl _) ?_)
  refine ret_of ?_
  iintro ⟨HS, HK⟩
  iapply HK $$ HS

/-- The sixteenth part: chunks 10 to 14 of the outputs, and the load of chunk 15. -/
theorem part16 (Q : Vec F S8x32x512 .f32 → sProp 𝕄) :
    iprop(outs c x A B C carry arg4 arg8 10 ∗ (outs c x A B C carry arg4 arg8 15 -∗ Q (slabY (yall x A B C carry) 15)))
      ⊢ runs c (k0_part16_skel (F := F) arg0 harg0 arg1 harg1 arg2 harg2 arg3 harg3 arg4 harg4 arg5 harg5 arg6 harg6 arg7 harg7 arg8 harg8 arg9 harg9 arg10 harg10 arg11 harg11 arg12 harg12 arg13 harg13 arg14 arg15) Q := by
  unfold k0_part16_skel
  simp only [Prog.lift, Prog.bind_op, Prog.bind_ret, Prog.pure_eq_ret]
  refine outs_ld8 _ (outs_ld4 _ fun _ => outs_st4 _ (by decide) rfl (cast_slabY _ 10 (by decide) rfl _) ?_)
  refine outs_ld8 _ (outs_ld4 _ fun _ => outs_st4 _ (by decide) rfl (cast_slabY _ 11 (by decide) rfl _) ?_)
  refine outs_ld8 _ (outs_ld4 _ fun _ => outs_st4 _ (by decide) rfl (cast_slabY _ 12 (by decide) rfl _) ?_)
  refine outs_ld8 _ (outs_ld4 _ fun _ => outs_st4 _ (by decide) rfl (cast_slabY _ 13 (by decide) rfl _) ?_)
  refine outs_ld8 _ (outs_ld4 _ fun _ => outs_st4 _ (by decide) rfl (cast_slabY _ 14 (by decide) rfl _) ?_)
  refine outs_ld8 _ (ret_of ?_)
  have e : k0_pay86 (window (s := S8x32x16x512) (yall x A B C carry) ![0, 0, 15, 0] S8x32x1x512.size inb_S8x32x16x512_S8x32x1x512_0_0_15_0) = slabY (yall x A B C carry) 15 :=
    cast_slabY _ 15 (by decide) rfl _
  iintro ⟨HS, HK⟩
  rw [e]
  iapply HK $$ HS

end Parts

end Cert.KernelIdeal.Scan

end
-- ==== Proof.Ideal.Ring.lean ====
/-
  THE RING'S PROTOCOL. Each device signals both neighbours' barrier semaphore and waits for two units. What a
  device's signal to the device before it carries is its carry buffer: the device before it writes the state that
  leaves its own block there. Device 0 receives nothing and device 7 sends nothing, so device 0 keeps its carry
  buffer, and its receive semaphore and device 7's send semaphore are never used.
-/
module

public import proofs.«01_k».proof.Proof.Ideal.Parts

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

/-- The pipeline's algebra in the run's, -/
abbrev EP : Emb (UR sig nD τ) (MT nD τ sig Unit (Elt F) ℕ UU ℕ) := embL
/-- and the ring's. -/
abbrev ER : Emb UB (MT nD τ sig Unit (Elt F) ℕ UU ℕ) := embR

variable (m : (ℓ : Loc nD τ sig) → Buf (Elt F) ℓ) (ρ : Dev nD → PrngReg)

/-! ## The devices in a ring -/

set_option backward.proofsInPublic true in
/-- The device after. -/
def nxt (c : Dev nD) : Dev nD := ⟨(c.val + 1) % 8, Nat.mod_lt _ (by decide)⟩
set_option backward.proofsInPublic true in
/-- The device before. -/
def prv (c : Dev nD) : Dev nD := ⟨(c.val + 7) % 8, Nat.mod_lt _ (by decide)⟩

/-- The device before the device after is the device. -/
theorem prv_nxt (c : Dev nD) : prv (nxt c) = c := by revert c; decide
/-- The device after the device before is the device. -/
theorem nxt_prv (c : Dev nD) : nxt (prv c) = c := by revert c; decide
/-- The ring as a permutation. -/
def ring : Dev nD ≃ Dev nD := ⟨nxt, prv, prv_nxt, nxt_prv⟩

/-- The device has a device before it to receive from. -/
abbrev Recvs (c : Dev nD) : Prop := 0 < c.val
/-- The device has a device after it to send to. -/
abbrev Sends (c : Dev nD) : Prop := c.val < 7

/-- The device after receives exactly when the device sends. -/
theorem recvs_nxt (c : Dev nD) : Recvs (nxt c) ↔ Sends c := by revert c; decide
/-- The device before sends exactly when the device receives. -/
theorem sends_prv (c : Dev nD) : Sends (prv c) ↔ Recvs c := by revert c; decide

/-- The kernel's first signal goes to the device before, -/
theorem dev1_eq (c : Dev nD) : (⟨k0_dev1 c, k0_dev1_lt c⟩ : Dev nD) = prv c := Fin.ext ((by decide +kernel : ∀ c : Dev nD, k0_dev1 c = (c.val + 7) % 8) c)
/-- its second to the device after, -/
theorem dev2_eq (c : Dev nD) : (⟨k0_dev2 c, k0_dev2_lt c⟩ : Dev nD) = nxt c := Fin.ext ((by decide +kernel : ∀ c : Dev nD, k0_dev2 c = (c.val + 1) % 8) c)
/-- and so does its transfer. -/
theorem dev3_eq (c : Dev nD) (h : k0_cond3 c = 1#1) : (⟨k0_dev3 c, k0_dev3_lt c h⟩ : Dev nD) = nxt c :=
  Fin.ext ((by decide +kernel : ∀ c : Dev nD, k0_cond3 c = 1#1 → k0_dev3 c = (c.val + 1) % 8) c h)
/-- The transfer's condition. -/
theorem cond3_iff (c : Dev nD) : k0_cond3 c = 1#1 ↔ Sends c := (by decide +kernel : ∀ c : Dev nD, k0_cond3 c = 1#1 ↔ Sends c) c

/-! ## The cells -/

/-- The carry buffer. -/
abbrev carM : Memref sig .tc .vmem S8x16x512 .f32 := Memref.whole cc0_scratch7
/-- The send buffer. -/
abbrev sndM : Memref sig .tc .vmem S8x16x512 .f32 := Memref.whole cc0_scratch8

/-- The barrier semaphore. -/
abbrev barS : Sem sig := (SemArray.scalar (sig.barrier 0 rfl) : Sems sig S_).sem
/-- The send semaphore. -/
abbrev sndS : DmaSems sig S_ := cc0_scratch9
/-- The receive semaphore. -/
abbrev rcvS : DmaSems sig S_ := cc0_scratch10

/-- A device's barrier semaphore. -/
abbrev barCell (c : Dev nD) : GSem nD τ sig := ((c : Thread nD τ), .reg barS)
/-- A device's send semaphore. -/
abbrev sndCell (c : Dev nD) : GSem nD τ sig := ((c : Thread nD τ), .dma sndS.sem)
/-- A device's receive semaphore. -/
abbrev rcvCell (c : Dev nD) : GSem nD τ sig := ((c : Thread nD τ), .dma rcvS.sem)

/-- The transfer's credit. -/
abbrev N : ℕ := (carM : Memref sig .tc .vmem S8x16x512 .f32).view.dmaCredit
/-- A transfer raises its semaphore. -/
theorem N_pos : 0 < N := View.dmaCredit_pos _ (by decide)

/-- The send semaphore is not the barrier. -/
theorem snd_ne_bar : (SemLoc.dma sndS.sem : SemLoc sig) ≠ .reg barS := fun h => by cases h
/-- The receive semaphore is not the barrier. -/
theorem rcv_ne_bar : (SemLoc.dma rcvS.sem : SemLoc sig) ≠ .reg barS := fun h => by cases h
/-- The send semaphore is not the receive semaphore. -/
theorem snd_ne_rcv : (SemLoc.dma sndS.sem : SemLoc sig) ≠ .dma rcvS.sem := by decide
/-- The receive semaphore is not the send semaphore. -/
theorem rcv_ne_snd : (SemLoc.dma rcvS.sem : SemLoc sig) ≠ .dma sndS.sem := by decide

/-! ## What the devices hold -/

/-- A device's four argument blocks at launch. -/
def xb (c : Dev nD) : Vec F S8x512x512 .f32 := m ((c : Thread nD τ).loc main_arg0)
/-- The device's rates. -/
def Ab (c : Dev nD) : Vec F S512x16 .f32 := m ((c : Thread nD τ).loc main_arg1)
/-- The device's input weights. -/
def Bb (c : Dev nD) : Vec F S8x512x16 .f32 := m ((c : Thread nD τ).loc main_arg2)
/-- The device's output weights. -/
def Cb (c : Dev nD) : Vec F S8x512x16 .f32 := m ((c : Thread nD τ).loc main_arg3)

/-- The state that enters device `c`'s block. -/
def carryAt (c : Dev nD) : Vec F S8x16x512 .f32 := carryN (xb m) (Ab m) (Bb m) c.val
/-- The state device `c` sends on. -/
def sentAt (c : Dev nD) : Vec F S8x16x512 .f32 := sent (xb m c) (Ab m c) (Bb m c) (carryAt m c)
/-- Device `c`'s output block. -/
def outAt (c : Dev nD) : Vec F S8x512x512 .f32 := outv (xb m c) (Ab m c) (Bb m c) (Cb m c) (carryAt m c)

/-- What enters a device's block is what the device before it sends. -/
theorem carryAt_nxt (c : Dev nD) (h : Sends c) : carryAt m (nxt c) = sentAt m c := by
  have e : (nxt c).val = c.val + 1 := by show (c.val + 1) % 8 = _; have : c.val < 7 := h; omega
  have e' : (⟨c.val % 8, Nat.mod_lt _ (by decide)⟩ : Fin 8) = c := Fin.ext (Nat.mod_eq_of_lt c.isLt)
  unfold carryAt sentAt
  rw [e, carryN]
  simp only [e']
  rfl

/-- Nothing enters device 0's block. -/
theorem carryAt_first (c : Dev nD) (h : ¬ Recvs c) : carryAt m c = k0_pay64 (F := F) := by
  have e : c.val = 0 := by omega
  unfold carryAt
  rw [e, carryN]

/-- A buffer at given contents may be put into an invariant. -/
instance hold_storable {s : Shape} (c : Dev nD) (M : Memref sig .tc .vmem s .f32) (X : Vec F s .f32) : BI.Storable (upEmb : UEmb _ 𝕄) (hold c M X) := by
  unfold hold owns; infer_instance
/-- A buffer at some contents may be put into an invariant. -/
instance anyOf_storable {s : Shape} (c : Dev nD) (M : Memref sig .tc .vmem s .f32) : BI.Storable (upEmb : UEmb _ 𝕄) (anyOf (F := F) c M) := by
  unfold anyOf; infer_instance

/-! ## The schedule -/

/-- What the signal of the device after hands over: its carry buffer, if `c` sends to it, and that it has reached round 0
of its receive cell. -/
def barPay (c : Dev nD) : sProp 𝕄 :=
  if Sends c then iprop(anyOf (F := F) (nxt c) carM ∗ reached ER (rcvCell (nxt c)) 0) else iprop(emp)

/-- What the barrier signal carries may be put into an invariant. -/
instance barPay_storable (c : Dev nD) : BI.Storable (upEmb : UEmb _ 𝕄) (barPay (F := F) c) := by
  unfold barPay; split <;> infer_instance

/-- The duties of a core's cells at round 0: two of the barrier's, one of the send cell's if the device sends, one of the
receive cell's if it receives. -/
def dut (c : Dev nD) (s : SemLoc sig) : Finset Bool :=
  if s = .reg barS then Finset.univ
  else if s = .dma sndS.sem ∧ Sends c then {false}
  else if s = .dma rcvS.sem ∧ Recvs c then {false}
  else ∅

/-- One round: the barrier's two units, `false` from the device before and `true` from the device after; the transfer's
credit at the two ends. -/
def sch : Rounds.Schedule (GSem nD τ sig) Bool 𝕄 where
  duties g r := if r = 0 ∧ g.1.2 = .tc then dut g.1.1 g.2 else ∅
  unitless _ := False
  amount g _ _ := if g.2 = .reg barS then 1 else N
  payload g _ d :=
    if g.2 = .reg barS then (if d then barPay g.1.1 else iprop(emp))
    else if g.2 = .dma rcvS.sem then hold g.1.1 carM (carryAt m g.1.1)
    else if g.2 = .dma sndS.sem then hold g.1.1 sndM (sentAt m g.1.1)
    else iprop(emp)
  amount_pos g _ _ _ := by
    by_cases h : g.2 = .reg barS
    · rw [if_pos h]; exact Nat.one_pos
    · rw [if_neg h]; exact N_pos

/-- What any signal of the ring carries may be put into an invariant. -/
instance sch_storable (g : GSem nD τ sig) (r : ℕ) (d : Bool) : BI.Storable (upEmb : UEmb _ 𝕄) ((sch (F := F) m).payload g r d) := by
  show BI.Storable upEmb (if g.2 = .reg barS then (if d then barPay g.1.1 else iprop(emp))
    else if g.2 = .dma rcvS.sem then hold g.1.1 carM (carryAt m g.1.1)
    else if g.2 = .dma sndS.sem then hold g.1.1 sndM (sentAt m g.1.1) else iprop(emp))
  (repeat' split) <;> infer_instance

/-- The signals due at a semaphore in a round. -/
theorem sch_duties (g : GSem nD τ sig) (r : ℕ) : (sch (F := F) m).duties g r = if r = 0 ∧ g.1.2 = .tc then dut g.1.1 g.2 else ∅ := rfl
/-- How far a signal raises its semaphore. -/
theorem sch_amount (g : GSem nD τ sig) (r : ℕ) (d : Bool) : (sch (F := F) m).amount g r d = if g.2 = .reg barS then 1 else N := rfl
/-- What a signal carries. -/
theorem sch_payload (g : GSem nD τ sig) (r : ℕ) (d : Bool) : (sch (F := F) m).payload g r d
    = if g.2 = .reg barS then (if d then barPay g.1.1 else iprop(emp))
      else if g.2 = .dma rcvS.sem then hold g.1.1 carM (carryAt m g.1.1)
      else if g.2 = .dma sndS.sem then hold g.1.1 sndM (sentAt m g.1.1) else iprop(emp) := rfl

section Sched
variable (c : Dev nD)

/-- The barrier gets both signals. -/
theorem duties_bar : (sch (F := F) m).duties (barCell c) 0 = Finset.univ := by
  rw [sch_duties, if_pos ⟨rfl, rfl⟩, dut, if_pos rfl]
/-- The send semaphore of a device that sends gets one signal. -/
theorem duties_snd (h : Sends c) : (sch (F := F) m).duties (sndCell c) 0 = {false} := by
  rw [sch_duties, if_pos ⟨rfl, rfl⟩, dut, if_neg snd_ne_bar, if_pos ⟨rfl, h⟩]
/-- The receive semaphore of a device that receives gets one signal. -/
theorem duties_rcv (h : Recvs c) : (sch (F := F) m).duties (rcvCell c) 0 = {false} := by
  rw [sch_duties, if_pos ⟨rfl, rfl⟩, dut, if_neg rcv_ne_bar, if_neg (fun e => rcv_ne_snd e.1), if_pos ⟨rfl, h⟩]
/-- No duties after round 0, -/
theorem duties_later (g : GSem nD τ sig) : ∀ r, 1 ≤ r → (sch (F := F) m).duties g r = ∅ := fun r hr => if_neg fun h => by omega
/-- none at all at a send cell that sends nothing, -/
theorem duties_snd_none (h : ¬ Sends c) : ∀ r, 0 ≤ r → (sch (F := F) m).duties (sndCell c) r = ∅ := fun r _ => by
  have e : dut c (.dma sndS.sem) = ∅ := by
    rw [dut, if_neg snd_ne_bar, if_neg (fun e => h e.2), if_neg (fun e => snd_ne_rcv e.1)]
  rw [sch_duties, e, ite_self]
/-- and none at a receive cell that receives nothing. -/
theorem duties_rcv_none (h : ¬ Recvs c) : ∀ r, 0 ≤ r → (sch (F := F) m).duties (rcvCell c) r = ∅ := fun r _ => by
  have e : dut c (.dma rcvS.sem) = ∅ := by
    rw [dut, if_neg rcv_ne_bar, if_neg (fun e => rcv_ne_snd e.1), if_neg (fun e => h e.2)]
  rw [sch_duties, e, ite_self]

/-- A barrier signal counts one. -/
theorem amount_bar (d : Bool) : (sch (F := F) m).amount (barCell c) 0 d = 1 := by rw [sch_amount, if_pos rfl]
/-- A signal of the send semaphore counts one transfer. -/
theorem amount_snd (d : Bool) : (sch (F := F) m).amount (sndCell c) 0 d = N := by rw [sch_amount, if_neg snd_ne_bar]
/-- A signal of the receive semaphore counts one transfer. -/
theorem amount_rcv (d : Bool) : (sch (F := F) m).amount (rcvCell c) 0 d = N := by rw [sch_amount, if_neg rcv_ne_bar]

/-- The barrier comes to two. -/
theorem expect_bar : (sch (F := F) m).expect (barCell c) 0 = 2 := by
  unfold Schedule.expect Schedule.amountOf
  rw [duties_bar, Finset.sum_congr rfl fun d _ => amount_bar m c d]
  rfl
/-- The send semaphore comes to one transfer. -/
theorem expect_snd (h : Sends c) : (sch (F := F) m).expect (sndCell c) 0 = N := by
  unfold Schedule.expect Schedule.amountOf; rw [duties_snd m c h, Finset.sum_singleton, amount_snd]
/-- The receive semaphore comes to one transfer. -/
theorem expect_rcv (h : Recvs c) : (sch (F := F) m).expect (rcvCell c) 0 = N := by
  unfold Schedule.expect Schedule.amountOf; rw [duties_rcv m c h, Finset.sum_singleton, amount_rcv]

/-- The barrier signal of the device after carries what the barrier passes on. -/
theorem payload_bar_true : (sch (F := F) m).payload (barCell c) 0 true = barPay c := rfl
/-- The barrier signal of the device before carries nothing. -/
theorem payload_bar_false : (sch (F := F) m).payload (barCell c) 0 false = iprop(emp) := rfl
/-- The send signal gives the send buffer back. -/
theorem payload_snd (d : Bool) : (sch (F := F) m).payload (sndCell c) 0 d = hold c sndM (sentAt m c) := by
  rw [sch_payload, if_neg snd_ne_bar, if_neg snd_ne_rcv, if_pos rfl]
/-- The receive signal brings the carry buffer with the state that enters the block. -/
theorem payload_rcv (d : Bool) : (sch (F := F) m).payload (rcvCell c) 0 d = hold c carM (carryAt m c) := by
  rw [sch_payload, if_neg rcv_ne_bar, if_pos rfl]

/-- What the waits hand over. -/
theorem rest_bar : bigSep ((sch (F := F) m).duties (barCell c) 0 \ ∅) (fun d => (sch (F := F) m).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
/-- All that the send semaphore brings is the send buffer. -/
theorem rest_snd (h : Sends c) : bigSep ((sch (F := F) m).duties (sndCell c) 0 \ ∅) (fun d => (sch (F := F) m).payload (sndCell c) 0 d) = hold c sndM (sentAt m c) := by
  rw [Finset.sdiff_empty, duties_snd m c h, bigSep_singleton, payload_snd]
/-- All that the receive semaphore brings is the carry buffer. -/
theorem rest_rcv (h : Recvs c) : bigSep ((sch (F := F) m).duties (rcvCell c) 0 \ ∅) (fun d => (sch (F := F) m).payload (rcvCell c) 0 d) = hold c carM (carryAt m c) := by
  rw [Finset.sdiff_empty, duties_rcv m c h, bigSep_singleton, payload_rcv]

end Sched

/-! ## What each device owes, and the order of the waits -/

/-- The transfer's credit, which a device that sends owes the receive cell of the device after it. -/
def oweR (c : Dev nD) : CellTallies nD τ sig Unit := tallyAt (rcvCell (nxt c)) () (if Sends c then N else 0)
/-- What is owed after the first signal, -/
def oweB (c : Dev nD) : CellTallies nD τ sig Unit := oweR c + tallyAt (barCell (nxt c)) () 1
/-- and at launch. -/
def owe₀ (c : Dev nD) : CellTallies nD τ sig Unit := oweB c + tallyAt (barCell (prv c)) () 1

/-- Every core's cells have a level; -/
def L (g : GSem nD τ sig) : Finset Unit := if g.1.2 = .tc then {()} else ∅
/-- the barriers are at level 1, the receive cells above them in the order of the devices, and the others at 0. -/
def lv (g : GSem nD τ sig) (_ : Unit) : ℕ := if g.2 = .reg barS then 1 else if g.2 = .dma rcvS.sem then 2 + g.1.1.val else 0

/-- Only the semaphores of the compute cores have levels. -/
theorem L_of_ne (g : GSem nD τ sig) (h : g.1.2 ≠ .tc) : L g = ∅ := if_neg h
/-- Every semaphore of a compute core has one level. -/
theorem L_tc (c : Dev nD) (sm : SemLoc sig) : L ((c : Thread nD τ), sm) = {()} := if_pos rfl
/-- The level of the barrier is 1. -/
theorem lv_bar (c : Dev nD) : lv (barCell c) () = 1 := if_pos rfl
/-- The level of the receive semaphore grows along the ring. -/
theorem lv_rcv (c : Dev nD) : lv (rcvCell c) () = 2 + c.val := (if_neg rcv_ne_bar).trans (if_pos rfl)

/-- A transfer is owed only to the device after, by a device that sends. -/
theorem oweR_pos {c : Dev nD} {g : GSem nD τ sig} {u : Unit} (h : 0 < oweR c g u) : g = rcvCell (nxt c) ∧ Sends c := by
  unfold oweR at h
  rw [tallyAt_apply] at h
  split at h
  · rename_i e
    refine ⟨e.1, ?_⟩
    by_contra hs
    rw [if_neg hs] at h
    exact Nat.lt_irrefl 0 h
  · exact absurd h (Nat.lt_irrefl 0)

/-- What is owed at the start: the transfer to the device after, and a barrier signal to each neighbour. -/
theorem owe₀_pos {c : Dev nD} {g : GSem nD τ sig} {u : Unit} (h : 0 < owe₀ c g u) :
    (g = rcvCell (nxt c) ∧ Sends c) ∨ g = barCell (nxt c) ∨ g = barCell (prv c) := by
  unfold owe₀ oweB at h
  rw [Pi.add_apply, Finsupp.add_apply, Pi.add_apply, Finsupp.add_apply, tallyAt_apply, tallyAt_apply] at h
  by_cases h1 : 0 < oweR c g u
  · exact .inl (oweR_pos h1)
  by_cases h2 : g = barCell (nxt c)
  · exact .inr (.inl h2)
  by_cases h3 : g = barCell (prv c)
  · exact .inr (.inr h3)
  rw [if_neg (fun e => h2 e.1), if_neg (fun e => h3 e.1)] at h
  omega

/-- The staging copies may be waited for while all of it is owed, or none. -/
theorem mayWait_stage (c : Dev nD) (q : DmaSem sig) (hq : SemLoc.dma q ≠ .dma rcvS.sem) (O : CellTallies nD τ sig Unit) (hO : O = owe₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owe₀_pos hg with ⟨rfl, -⟩ | rfl | rfl <;> exact Finset.mem_singleton_self _)
      (fun p hp => by rw [Finset.mem_singleton.mp hp]; dsimp only [lv]; rw [if_neg (fun h => by cases h), if_neg hq])
      (fun g u hg => by
        rcases owe₀_pos hg with ⟨rfl, -⟩ | rfl | rfl
        · rw [lv_rcv]; omega
        · rw [lv_bar]; decide
        · rw [lv_bar]; decide)
  · rw [MayWait_zero]; iintro -; iempintro

/-- The barrier and the own receive cell may be waited for while the transfer's credit is owed. -/
theorem mayWait_owed (c : Dev nD) (sm : SemLoc sig) (hsm : lv ((c : Thread nD τ), sm) () ≤ 2 + c.val) :
    (levAts L lv : sProp 𝕄) ⊢ MayWait (c : Thread nD τ) sm () (oweR c) :=
  MayOwe.of_cut (L := L) (lev := lv) (2 + c.val) (fun p hp => by rw [Finset.mem_singleton.mp hp, L_tc]; exact Finset.mem_singleton_self _)
    (fun g u hg => by rw [(oweR_pos hg).1, L_tc]; exact Finset.mem_singleton_self _)
    (fun p hp => by rw [Finset.mem_singleton.mp hp]; exact hsm)
    (fun g u hg => by
      obtain ⟨rfl, hs⟩ := oweR_pos hg
      have e : (nxt c).val = c.val + 1 := by show (c.val + 1) % 8 = _; have : c.val < 7 := hs; omega
      rw [lv_rcv, e]
      omega)

end Cert.KernelIdeal.Scan

end
-- ==== Proof.Ideal.Sync.lean ====
/-
  THE BODY'S TWO PARTS THAT SYNCHRONISE: the handshake with the neighbours, and the passing of the state from block
  to block. A device with one before it waits for the state that enters its block; device 0 stores zeros. A device
  with one after it sends on the state that leaves its block, and waits until the transfer has left.
-/
module

public import proofs.«01_k».proof.Proof.Ideal.Ring

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 3 → ℕ)

/-- The invariants device `c`'s body opens, under the names the launch gave them: its own three cells, both neighbours'
barriers, the next device's receive cell. -/
def invs (c : Dev nD) : sProp 𝕄 :=
  iprop(cellInv ER (sch m) (K (c, 0)) (barCell c) ∗ cellInv ER (sch m) (K (c, 1)) (sndCell c) ∗ cellInv ER (sch m) (K (c, 2)) (rcvCell c)
    ∗ cellInv ER (sch m) (K (nxt c, 0)) (barCell (nxt c)) ∗ cellInv ER (sch m) (K (prv c, 0)) (barCell (prv c))
    ∗ cellInv ER (sch m) (K (nxt c, 2)) (rcvCell (nxt c)))

/-- The invariants can be used any number of times. -/
instance invs_persistent (c : Dev nD) : BI.Persistent (invs m K c) := by unfold invs; infer_instance

/-- What the handshake starts from, -/
def shake (c : Dev nD) : sProp 𝕄 :=
  iprop(atPos ER (barCell c) 0 ∅ 0 ∗ reached ER (barCell (nxt c)) 0 ∗ reached ER (barCell (prv c)) 0 ∗ reached ER (rcvCell c) 0
    ∗ dutyTok ER (barCell (nxt c)) 0 false ∗ dutyTok ER (barCell (prv c)) 0 true ∗ cred (tallyAt (barCell c) () 2))

/-- what receiving does, -/
def recvs (c : Dev nD) : sProp 𝕄 :=
  iprop(atPos ER (rcvCell c) 0 ∅ 0 ∗ cred (tallyAt (rcvCell c) () (if Recvs c then N else 0)))

/-- and what sending does. -/
def sends (c : Dev nD) : sProp 𝕄 :=
  iprop(atPos ER (sndCell c) 0 ∅ 0 ∗ reached ER (sndCell c) 0 ∗ dutyTok ER (rcvCell (nxt c)) 0 false ∗ dutyTok ER (sndCell c) 0 false)

/-- What is owed, whatever was waited for. -/
def owing (c : Dev nD) (O : CellTallies nD τ sig Unit) : sProp 𝕄 := iprop(∃ W, owes (c : Thread nD τ) O W)

/-- What a core holds when it has given its carry buffer away. -/
def kept (c : Dev nD) : sProp 𝕄 := if Recvs c then iprop(emp) else anyOf (F := F) c carM

/-- The device's logical index as the kernel computes it. -/
abbrev word (c : Dev nD) : BitVec 32 := Scalar.remsi (Scalar.divsi (Dev.word c) 1#32) 8#32

/-- The condition to store zeros: nothing is received. -/
theorem cond1_iff (c : Dev nD) : Scalar.cmpi .ne (Scalar.extui (Scalar.cmpi .eq (word c) 0#32) : BitVec 32) 0#32 = 1#1 ↔ ¬ Recvs c :=
  (by decide +kernel : ∀ c : Dev nD, Scalar.cmpi .ne (Scalar.extui (Scalar.cmpi .eq (word c) 0#32) : BitVec 32) 0#32 = 1#1 ↔ ¬ Recvs c) c
/-- The condition to wait for the transfer. -/
theorem cond2_iff (c : Dev nD) : Scalar.cmpi .ne (Scalar.extui (Scalar.cmpi .sgt (word c) 0#32) : BitVec 32) 0#32 = 1#1 ↔ Recvs c :=
  (by decide +kernel : ∀ c : Dev nD, Scalar.cmpi .ne (Scalar.extui (Scalar.cmpi .sgt (word c) 0#32) : BitVec 32) 0#32 = 1#1 ↔ Recvs c) c

section Sync
variable (c : Dev nD)
variable (arg0 : Memref sig .tc .vmem S8x512x512 .f32) (harg0 : arg0.IsWhole) (arg1 : Memref sig .tc .vmem S512x16 .f32) (harg1 : arg1.IsWhole) (arg2 : Memref sig .tc .vmem S8x512x16 .f32) (harg2 : arg2.IsWhole) (arg3 : Memref sig .tc .vmem S8x512x16 .f32) (harg3 : arg3.IsWhole) (arg4 : Memref sig .tc .vmem S8x512x512 .f32) (harg4 : arg4.IsWhole)
  (arg5 : Memref sig .tc .vmem S8x32x16x512 .f32) (harg5 : arg5.IsWhole) (arg6 : Memref sig .tc .vmem S8x32x16x16 .f32) (harg6 : arg6.IsWhole) (arg7 : Memref sig .tc .vmem S8x32x16x16 .f32) (harg7 : arg7.IsWhole) (arg8 : Memref sig .tc .vmem S8x32x16x512 .f32) (harg8 : arg8.IsWhole)
  (arg9 : Memref sig .tc .vmem S8x16x16x512 .f32) (harg9 : arg9.IsWhole) (arg10 : Memref sig .tc .vmem S8x16x16x512 .f32) (harg10 : arg10.IsWhole) (arg11 : Memref sig .tc .vmem S8x16x512 .f32) (harg11 : arg11.IsWhole)

include m K in
/-- The handshake: the device's carry buffer goes to the device before it, unless it is the first; the next device's
comes. -/
theorem part1 (Q : (Σ' (d0 : Dev nD) (v2 : BitVec 32) (v13 : BitVec 32), BitVec 32) → sProp 𝕄) :
    iprop(invs m K c ∗ levAts L lv ∗ shake (F := F) c ∗ owing (F := F) c (owe₀ c) ∗ anyOf (F := F) c carM
        ∗ (∀ a b, owing (F := F) c (oweR c) -∗ semVal (barCell c) 0 -∗ barPay (F := F) c -∗ kept (F := F) c -∗ Q ⟨c, word c, a, b⟩))
      ⊢ runs c (k0_part1_skel (F := F) arg0 harg0 arg1 harg1 arg2 harg2 arg3 harg3 arg4 harg4 arg5 harg5 arg6 harg6 arg7 harg7 arg8 harg8 arg9 harg9 arg10 harg10 arg11 harg11 carM (Memref.isWhole_whole _) sndM (Memref.isWhole_whole _) sndS rcvS) Q := by
  unfold k0_part1_skel
  simp only [semSignalWord, semWaitWord, Prog.lift, Prog.bind_op, Prog.bind_ret, Prog.pure_eq_ret, wp_deviceId, runs]
  unfold invs shake owing
  iintro ⟨⟨#HIbar, #HIsnd, #HIrcv, #HIbarN, #HIbarP, #HIrcvN⟩, #Hlev, ⟨HatB, #HrBN, #HrBP, #HrV, HtBN, HtBP, HcB⟩, ⟨%W, HO⟩, Hcar, HQ⟩
  simp only [dev1_eq c, dev2_eq c]
  have hgive : iprop(anyOf (F := F) c carM ∗ reached ER (rcvCell c) 0) ⊢ iprop(barPay (F := F) (prv c) ∗ kept (F := F) c) := by
    unfold barPay kept
    rw [nxt_prv]
    by_cases h : Recvs c
    · rw [if_pos h, if_pos ((sends_prv c).mpr h)]
      iintro ⟨H, H'⟩
      isplitl [H H']
      · isplitl [H] <;> iassumption
      iempintro
    · rw [if_neg h, if_neg (fun h' => h ((sends_prv c).mp h'))]
      iintro ⟨H, -⟩
      isplitr [H]
      · iempintro
      iexact H
  ihave Hg := hgive $$ [Hcar]
  · isplitl [Hcar]; · iexact Hcar
    iexact HrV
  icases Hg with ⟨Hgive, Hkeep⟩
  unfold owe₀
  iapply (Rounds.wp_signal 𝒱₀ ER (sch m) (c : Thread nD τ) none (dst := (prv c : Thread nD τ)) (κ := K (prv c, 0))
      (d := true) (by rw [duties_bar]; exact Finset.mem_univ _) ((amount_bar m (prv c) true).trans (by decide)) () (oweB c) rfl)
    $$ [HO HtBP Hgive]
  · isplitr; · iexact HIbarP
    isplitl [HO]; · iexact HO
    isplitl [HtBP]; · iexact HtBP
    isplitl [Hgive]
    · rw [payload_bar_true]; iexact Hgive
    · iexact HrBP
  iintro HO
  unfold oweB
  iapply (Rounds.wp_signal 𝒱₀ ER (sch m) (c : Thread nD τ) none (dst := (nxt c : Thread nD τ)) (κ := K (nxt c, 0))
      (d := false) (by rw [duties_bar]; exact Finset.mem_univ _) ((amount_bar m (nxt c) false).trans (by decide)) () (oweR c) rfl)
    $$ [HO HtBN]
  · isplitr; · iexact HIbarN
    isplitl [HO]; · iexact HO
    isplitl [HtBN]; · iexact HtBN
    isplitr; · rw [payload_bar_false]; iempintro
    iexact HrBN
  iintro HO
  iapply (Rounds.wp_wait_rest_token 𝒱₀ ER (sch m) (c : Thread nD τ) none (κ := K (c, 0))
      (wpE_semWait_eq 𝒱₀ (c : Thread nD τ) none Set.univ) (Set.mem_univ _) () (O := oweR c) (W := W) (R := 0) (m := 0) (T := ∅)
      (by rw [expect_bar]; decide)) $$ [HcB HO HatB]
  · isplitr; · iexact HIbar
    isplitl [HcB]; · iexact HcB
    isplitl [HO]; · iexact HO
    isplitr; · iapply (mayWait_owed c (.reg barS) (by rw [lv_bar]; omega)); iexact Hlev
    iexact HatB
  iintro ⟨HO, HatB, -, Hpay⟩
  ihave Hp := (Entails.of_eq (rest_bar m c)) $$ Hpay
  icases Hp with ⟨-, Hp⟩
  imod (Rounds.cell_close ER (sch m) (Set.mem_univ (K (c, 0))) (fun h => h) (R := 0 + 1) (duties_later m (barCell c))) $$ [HatB] with HzB
  · isplitr; · iexact HIbar
    iexact HatB
  rw [wp_ret]
  imodintro
  iapply HQ $$ [HO] [HzB] [Hp] [Hkeep]
  · iexists _; iexact HO
  · iexact HzB
  · iexact Hp
  · iexact Hkeep

/-- A load of a whole buffer reads what it holds. -/
theorem ld_whole {s : Shape} {M : Memref sig .tc .vmem s .f32} {X : Vec F s .f32} {α : Type} {Q : α → sProp 𝕄} {off : Fin s.rank → ℕ} (h : ∀ a, off a = 0)
    {inb : ∀ a, off a + s.size a ≤ s.size a} {hl} {k : Vec F s .f32 → Prog (TpuEff nD τ sig (Elt F) Λ₀ .tc) α} :
    hold c M X ⊢ iprop((hold c M X -∗ runs c (k X) Q) -∗ runs c (.op (.load M (Rect.unit off s.size inb).toLoadRect hl) k) Q) := by
  have e := wp_ld c M X Q inb rfl inb (hl := hl) (k := k)
  rw [window_full X h] at e
  exact e

/-- A store of a whole buffer leaves it holding the payload. -/
theorem st_whole {s : Shape} {M : Memref sig .tc .vmem s .f32} {w : Vec F s .f32} {α : Type} {Q : α → sProp 𝕄} {off : Fin s.rank → ℕ} (h : ∀ a, off a = 0)
    {inb : ∀ a, off a + s.size a ≤ s.size a} {hx hm} {k : PUnit → Prog (TpuEff nD τ sig (Elt F) Λ₀ .tc) α} :
    anyOf (F := F) c M ⊢ iprop((hold c M w -∗ runs c (k ⟨⟩) Q) -∗ runs c (.op (.store M (Rect.unit off s.size inb) w Finset.univ hx hm) k) Q) := by
  unfold anyOf
  iintro ⟨%X, H⟩
  have e := wp_st c M X Q inb rfl w (hx := hx) (hm := hm) (k := k)
  rw [put_full X w h] at e
  iapply e $$ H

/-- Three zero offsets. -/
theorem zero3 : ∀ a : Fin 3, (![0, 0, 0] : Fin 3 → ℕ) a = 0 := by decide
/-- Two zero offsets. -/
theorem zero2 : ∀ a : Fin 2, (![0, 0] : Fin 2 → ℕ) a = 0 := by decide
/-- Four zero offsets. -/
theorem zero4 : ∀ a : Fin 4, (![0, 0, 0, 0] : Fin 4 → ℕ) a = 0 := by decide

/-- Device 0 stores zeros as the state that enters its block; the others leave that to the transfer. -/
theorem stage_zero {α : Type} {Q : α → sProp 𝕄} {off : Fin 3 → ℕ} (h : ∀ a, off a = 0) {inb inb' : ∀ a, off a + S8x16x512.size a ≤ S8x16x512.size a} {hl hx hm}
    {k : Prog (TpuEff nD τ sig (Elt F) Λ₀ .tc) α} :
    kept (F := F) c ⊢ iprop(((if Recvs c then iprop(emp) else hold c carM (carryAt m c)) -∗ runs c k Q)
      -∗ runs c (if _ : Scalar.cmpi .ne (Scalar.extui (Scalar.cmpi .eq (word c) 0#32) : BitVec 32) 0#32 = 1#1 then
          .op (.load carM (Rect.unit (s := S8x16x512) off S8x16x512.size inb).toLoadRect hl) fun _ =>
            .op (.store carM (Rect.unit (s := S8x16x512) off S8x16x512.size inb') (k0_pay64 (F := F)) Finset.univ hx hm) fun _ => k
        else k) Q) := by
  unfold kept
  by_cases hr : Recvs c
  · rw [dif_neg (fun e => (cond1_iff c).mp e hr), if_pos hr, if_pos hr]
    iintro H K
    iapply K
    iexact H
  · rw [dif_pos ((cond1_iff c).mpr hr), if_neg hr, if_neg hr, carryAt_first m c hr]
    unfold anyOf
    iintro ⟨%X, H⟩ K
    iapply (ld_whole c (M := carM) h) $$ H
    iintro H
    iapply (st_whole c (M := carM) h) $$ [H]
    · unfold anyOf; iexists X; iexact H
    iexact K

include K in
/-- A device with one before it waits for the state that enters its block. -/
theorem stage_recv {α : Type} {Q : α → sProp 𝕄} {hx hx'} {k : Prog (TpuEff nD τ sig (Elt F) Λ₀ .tc) α} :
    iprop(invs m K c ∗ levAts L lv ∗ recvs (F := F) c ∗ owing (F := F) c (oweR c) ∗ (if Recvs c then iprop(emp) else hold c carM (carryAt m c)))
      ⊢ iprop((owing (F := F) c (oweR c) -∗ semVal (rcvCell c) 0 -∗ hold c carM (carryAt m c) -∗ runs c k Q)
      -∗ runs c (if _ : Scalar.cmpi .ne (Scalar.extui (Scalar.cmpi .sgt (word c) 0#32) : BitVec 32) 0#32 = 1#1 then
          .op (.waitDma2 rcvS.sem sndM carM hx hx') fun _ => k
        else k) Q) := by
  unfold invs recvs owing
  simp only [runs]
  by_cases hr : Recvs c
  · rw [dif_pos ((cond2_iff c).mpr hr), if_pos hr, if_pos hr]
    iintro ⟨⟨#HIbar, #HIsnd, #HIrcv, #HIbarN, #HIbarP, #HIrcvN⟩, #Hlev, ⟨Hat, Hc⟩, ⟨%W, HO⟩, Hcar⟩ Kk
    iapply (Rounds.wp_wait_rest_token 𝒱₀ ER (sch m) (c : Thread nD τ) none (κ := K (c, 2))
        (wpE_waitDma2_eq 𝒱₀ (c : Thread nD τ) none Set.univ) (Set.mem_univ _) () (O := oweR c) (W := W) (R := 0) (m := 0) (T := ∅)
        (by rw [Nat.zero_add, expect_rcv m c hr])) $$ [Hc HO Hat]
    · isplitr; · iexact HIrcv
      isplitl [Hc]; · iexact Hc
      isplitl [HO]; · iexact HO
      isplitr; · iapply (mayWait_owed c (.dma rcvS.sem) (by rw [lv_rcv])); iexact Hlev
      iexact Hat
    iintro ⟨HO, Hat, -, Hpay⟩
    ihave Hp := (Entails.of_eq (rest_rcv m c hr)) $$ Hpay
    imod (Rounds.cell_close ER (sch m) (Set.mem_univ (K (c, 2))) (fun h => h) (R := 0 + 1) (duties_later m (rcvCell c))) $$ [Hat] with Hz
    · isplitr; · iexact HIrcv
      iexact Hat
    iapply Kk $$ [HO] [Hz] [Hp]
    · iexists _; iexact HO
    · iexact Hz
    · iexact Hp
  · rw [dif_neg (fun e => hr ((cond2_iff c).mp e)), if_neg hr, if_neg hr]
    iintro ⟨⟨#HIbar, #HIsnd, #HIrcv, #HIbarN, #HIbarP, #HIrcvN⟩, #Hlev, ⟨Hat, Hc⟩, ⟨%W, HO⟩, Hcar⟩ Kk
    imod (Rounds.cell_close ER (sch m) (Set.mem_univ (K (c, 2))) (fun h => h) (R := 0) (duties_rcv_none m c hr)) $$ [Hat] with Hz
    · isplitr; · iexact HIrcv
      iexact Hat
    iapply Kk $$ [HO] [Hz] [Hcar]
    · iexists _; iexact HO
    · iexact Hz
    · iexact Hcar

/-- The transfer to the device after, addressed to `n`, which is that device. -/
theorem wp_send_on (n : Dev nD) (hn : n = nxt c) (hs : Sends c) {hsc : (carM : Memref sig (Dev.tc n : Thread nD τ).2.kind .vmem S8x16x512 .f32).view.ref.isScScratch = false}
    {hsrc : (sndM : Memref sig .tc .vmem S8x16x512 .f32).view.WordExact} {hdst : (carM : Memref sig .tc .vmem S8x16x512 .f32).view.WordExact}
    {hsem : DmaTarget.Typed .vmem (.dma rcvS.sem) (.remote (Dev.tc n : Thread nD τ) (carM : Memref sig .tc .vmem S8x16x512 .f32) (.dma sndS.sem) hsc)}
    {α : Type} {Q : α → sProp 𝕄} {k : PUnit → Prog (TpuEff nD τ sig (Elt F) Λ₀ .tc) α} (W : Waits sig Unit) :
    iprop(cellInv ER (sch m) (K (c, 1)) (sndCell c) ∗ cellInv ER (sch m) (K (nxt c, 2)) (rcvCell (nxt c))
        ∗ hold c sndM (sentAt m c) ∗ anyOf (F := F) (nxt c) carM
        ∗ owes (c : Thread nD τ) (oweR c) W
        ∗ dutyTok ER (sndCell c) 0 false ∗ reached ER (sndCell c) 0
        ∗ dutyTok ER (rcvCell (nxt c)) 0 false ∗ reached ER (rcvCell (nxt c)) 0)
      ⊢ iprop(((cred (tallyAt (sndCell c) () N) ∗ owes (c : Thread nD τ) 0 W) -∗ runs c (k ⟨⟩) Q)
          -∗ runs c (.op (.enqueueDma sndM (.remote (Dev.tc n : Thread nD τ) carM (.dma sndS.sem) hsc) (.dma rcvS.sem) hsrc hdst hsem) k) Q) := by
  subst hn
  have hO : oweR c = 0 + tallyAt (rcvCell (nxt c)) () N := by unfold oweR; rw [if_pos hs, zero_add]
  unfold anyOf hold owns
  iintro ⟨#HIs, #HIr, ⟨%fs, %hfs, Hs⟩, ⟨%X, %fd, -, Hd⟩, HO, Hts, #Hrs, Htr, #Hrr⟩
  iapply (Rounds.wp_send_pointsTo 𝒱₀ ER (sch m) (c : Thread nD τ) none (κ₁ := K (c, 1)) (κ₂ := K (nxt c, 2))
    (r₁ := 0) (r₂ := 0) (d₁ := false) (d₂ := false) (fs := fs) (fd := fd)
    (by rw [duties_snd m c hs]; exact Finset.mem_singleton_self _) (by rw [duties_rcv m (nxt c) ((recvs_nxt c).mpr hs)]; exact Finset.mem_singleton_self _)
    () () N rfl (amount_snd m c false) (amount_rcv m (nxt c) false) 0 hO (W := W)
    (by
      rw [payload_snd]; unfold hold owns
      iintro H
      iexists fs
      isplitr; · (ipureintro; exact hfs)
      iexact H)
    (by
      rw [payload_rcv]; unfold hold owns
      iintro H
      iexists ((carM : Memref sig .tc .vmem S8x16x512 .f32).view.write (Elt F) fd ((sndM : Memref sig .tc .vmem S8x16x512 .f32).view.read (Elt F) fs) Finset.univ)
      isplitr
      · ipureintro
        rw [View.read_write_univ, hfs]
        exact (carryAt_nxt m c hs).symm
      iexact H))
  isplitr; · iexact HIs
  isplitr; · iexact HIr
  isplitl [Hs]; · iexact Hs
  isplitl [Hd]; · iexact Hd
  isplitl [HO]; · iexact HO
  isplitl [Hts]; · iexact Hts
  isplitr; · iexact Hrs
  isplitl [Htr]; · iexact Htr
  iexact Hrr

include K in
/-- A device with one after it stores the state that leaves its block, sends it on and waits until it has left. -/
theorem stage_send {α : Type} {Q : α → sProp 𝕄} (arg1 : Memref sig .tc .vmem S512x16 .f32) (arg11 : Memref sig .tc .vmem S8x16x512 .f32)
    {k : Prog (TpuEff nD τ sig (Elt F) Λ₀ .tc) α} :
    iprop(invs m K c ∗ sends (F := F) c ∗ barPay (F := F) c ∗ owing (F := F) c (oweR c) ∗ hold c arg1 (Ab m c) ∗ hold c carM (carryAt m c)
        ∗ hold c arg11 (fin (xb m c) (Ab m c) (Bb m c)) ∗ anyOf (F := F) c sndM)
      ⊢ iprop((owing (F := F) c 0 -∗ semVal (sndCell c) 0 -∗ hold c arg1 (Ab m c) -∗ hold c carM (carryAt m c)
          -∗ hold c arg11 (fin (xb m c) (Ab m c) (Bb m c)) -∗ anyOf (F := F) c sndM -∗ runs c k Q)
      -∗ runs c (if h : k0_cond3 c = 1#1 then
          .op (.load arg1 (Rect.unit (s := S512x16) ![0, 0] S512x16.size inb_S512x16_S512x16_0_0).toLoadRect (View.loadsAt_vmem h_S512x16)) fun v371 =>
          .op (.load carM (Rect.unit (s := S8x16x512) ![0, 0, 0] S8x16x512.size inb_S8x16x512_S8x16x512_0_0_0).toLoadRect (View.loadsAt_vmem h_S8x16x512)) fun v377 =>
          .op (.load arg11 (Rect.unit (s := S8x16x512) ![0, 0, 0] S8x16x512.size inb_S8x16x512_S8x16x512_0_0_0).toLoadRect (View.loadsAt_vmem h_S8x16x512)) fun v381 =>
          .op (.load sndM (Rect.unit (s := S8x16x512) ![0, 0, 0] S8x16x512.size inb_S8x16x512_S8x16x512_0_0_0).toLoadRect (View.loadsAt_vmem h_S8x16x512)) fun _ =>
          .op (.store sndM (Rect.unit (s := S8x16x512) ![0, 0, 0] S8x16x512.size inb_S8x16x512_S8x16x512_0_0_0) (k0_pay65 v371 v377 v381) Finset.univ (View.stores_vmem_bits_univ h_S8x16x512 rfl) (.inl rfl)) fun _ =>
          .op (.enqueueDma sndM (.remote (Dev.tc (⟨k0_dev3 c, k0_dev3_lt c h⟩ : Dev nD)) carM (.dma sndS.sem)) (.dma rcvS.sem)
            (Memref.isWhole_whole cc0_scratch8).wordExact (Memref.isWhole_whole cc0_scratch7).wordExact ⟨⟨rfl, Or.inl rfl⟩, trivial⟩) fun _ =>
          .op (.waitDma2 sndS.sem carM sndM (Memref.isWhole_whole cc0_scratch7).wordExact (Memref.isWhole_whole cc0_scratch8).wordExact) fun _ => k
        else k) Q) := by
  unfold invs sends barPay
  by_cases hs : Sends c
  · rw [dif_pos ((cond3_iff c).mpr hs), if_pos hs]
    unfold owing
    iintro ⟨⟨#HIbar, #HIsnd, #HIrcv, #HIbarN, #HIbarP, #HIrcvN⟩, ⟨Hat, #HrS, HtV, HtS⟩, ⟨HcarN, #HrV⟩, ⟨%W, HO⟩, H1, H12, H11, H13⟩ Kk
    iapply (ld_whole c zero2) $$ H1
    iintro H1
    iapply (ld_whole c zero3) $$ H12
    iintro H12
    iapply (ld_whole c zero3) $$ H11
    iintro H11
    unfold anyOf
    icases H13 with ⟨%X, H13⟩
    iapply (ld_whole c zero3) $$ H13
    iintro H13
    iapply (st_whole c zero3) $$ [H13]
    · unfold anyOf; iexists X; iexact H13
    iintro H13
    iapply (wp_send_on m K c _ (dev3_eq c ((cond3_iff c).mpr hs)) hs W) $$ [H13 HcarN HO HtS HtV]
    · isplitr; · iexact HIsnd
      isplitr; · iexact HIrcvN
      isplitl [H13]; · iexact H13
      isplitl [HcarN]; · unfold anyOf; iexact HcarN
      isplitl [HO]; · iexact HO
      isplitl [HtS]; · iexact HtS
      isplitr; · iexact HrS
      isplitl [HtV]; · iexact HtV
      iexact HrV
    iintro ⟨HcS, HO⟩
    iapply (Rounds.wp_wait_rest_token 𝒱₀ ER (sch m) (c : Thread nD τ) none (κ := K (c, 1))
        (wpE_waitDma2_eq 𝒱₀ (c : Thread nD τ) none Set.univ) (Set.mem_univ _) () (O := 0) (W := W) (R := 0) (m := 0) (T := ∅)
        (by rw [Nat.zero_add, expect_snd m c hs])) $$ [HcS HO Hat]
    · isplitr; · iexact HIsnd
      isplitl [HcS]; · iexact HcS
      isplitl [HO]; · iexact HO
      isplitr; · rw [MayWait_zero]; iempintro
      iexact Hat
    iintro ⟨HO, Hat, -, Hpay⟩
    ihave H13 := (Entails.of_eq (rest_snd m c hs)) $$ Hpay
    imod (Rounds.cell_close ER (sch m) (Set.mem_univ (K (c, 1))) (fun h => h) (R := 0 + 1) (duties_later m (sndCell c))) $$ [Hat] with Hz
    · isplitr; · iexact HIsnd
      iexact Hat
    iapply Kk $$ [HO] [Hz] [H1] [H12] [H11] [H13]
    · iexists _; iexact HO
    · iexact Hz
    · iexact H1
    · iexact H12
    · iexact H11
    · iexists _; iexact H13
  · rw [dif_neg (fun e => hs ((cond3_iff c).mp e)), if_neg hs]
    have hO : oweR c = 0 := by
      unfold oweR; rw [if_neg hs]
      funext g
      ext
      rw [tallyAt_apply]
      exact ite_self _
    rw [hO]
    simp only [runs]
    iintro ⟨⟨#HIbar, #HIsnd, #HIrcv, #HIbarN, #HIbarP, #HIrcvN⟩, ⟨Hat, #HrS, HtV, HtS⟩, -, HO, H1, H12, H11, H13⟩ Kk
    imod (Rounds.cell_close ER (sch m) (Set.mem_univ (K (c, 1))) (fun h => h) (R := 0) (duties_snd_none m c hs)) $$ [Hat] with Hz
    · isplitr; · iexact HIsnd
      iexact Hat
    iapply Kk $$ [HO] [Hz] [H1] [H12] [H11] [H13]
    · iexact HO
    · iexact Hz
    · iexact H1
    · iexact H12
    · iexact H11
    · iexact H13

set_option maxHeartbeats 2000000 in
include K in
/-- The passing of the state: what leaves the block is sent on, and the correction starts from what entered it. -/
theorem part13 (a b : BitVec 32) (Q : (Σ' (v318 : FVec F S8x16x16x512 .f32), Vec F S8x16x16x512 .f32) → sProp 𝕄) :
    iprop(invs m K c ∗ levAts L lv ∗ recvs (F := F) c ∗ sends (F := F) c ∗ barPay (F := F) c ∗ kept (F := F) c ∗ owing (F := F) c (oweR c)
        ∗ hold c arg1 (Ab m c) ∗ anyOf (F := F) c arg9 ∗ hold c arg10 (pall (xb m c) (Ab m c) (Bb m c)) ∗ anyOf (F := F) c arg11 ∗ anyOf (F := F) c sndM
        ∗ (∀ v, owing (F := F) c 0 -∗ semVal (rcvCell c) 0 -∗ semVal (sndCell c) 0 -∗ hold c arg1 (Ab m c) -∗ anyOf (F := F) c arg9
            -∗ hold c arg10 (pall (xb m c) (Ab m c) (Bb m c)) -∗ anyOf (F := F) c arg11 -∗ anyOf (F := F) c carM -∗ anyOf (F := F) c sndM
            -∗ Q ⟨k0_pay66 (Ab m c) (pall (xb m c) (Ab m c) (Bb m c)) (carryAt m c), v⟩))
      ⊢ runs c (k0_part13_skel (F := F) arg0 harg0 arg1 harg1 arg2 harg2 arg3 harg3 arg4 harg4 arg5 harg5 arg6 harg6 arg7 harg7 arg8 harg8 arg9 harg9 arg10 harg10 arg11 harg11 carM (Memref.isWhole_whole _) sndM (Memref.isWhole_whole _) sndS rcvS c (word c) a b (pst (xb m c) (Ab m c) (Bb m c) 16)) Q := by
  unfold k0_part13_skel
  simp only [Prog.lift, Prog.bind_op, Prog.bind_ret, Prog.pure_eq_ret]
  iintro ⟨#HI, #Hlev, Hr, Hs, Hb, Hk, HO, H1, H9, H10, H11, H13, HQ⟩
  ihave H9 := (Entails.of_eq (show anyOf (F := F) c arg9 = iprop(∃ X, hold c arg9 X) from rfl)) $$ H9
  icases H9 with ⟨%X9, H9⟩
  ihave H11 := (Entails.of_eq (show anyOf (F := F) c arg11 = iprop(∃ X, hold c arg11 X) from rfl)) $$ H11
  icases H11 with ⟨%X11, H11⟩
  iapply (ld_whole c zero3) $$ H11
  iintro H11
  iapply (st_whole c zero3) $$ [H11]
  · unfold anyOf; iexists X11; iexact H11
  iintro H11
  iapply (stage_zero m c zero3) $$ Hk
  iintro Hcar
  iapply (stage_recv m K c) $$ [Hr HO Hcar]
  · isplitr; · iexact HI
    isplitr; · iexact Hlev
    isplitl [Hr]; · iexact Hr
    isplitl [HO]; · iexact HO
    iexact Hcar
  iintro HO Hzr Hcar
  iapply (stage_send m K c arg1 arg11) $$ [Hs Hb HO H1 Hcar H11 H13]
  · isplitr; · iexact HI
    isplitl [Hs]; · iexact Hs
    isplitl [Hb]; · iexact Hb
    isplitl [HO]; · iexact HO
    isplitl [H1]; · iexact H1
    isplitl [Hcar]; · iexact Hcar
    isplitl [H11]; · iexact H11
    iexact H13
  iintro HO Hzs H1 Hcar H11 H13
  iapply (ld_whole c zero2) $$ H1
  iintro H1
  iapply (ld_whole c zero4) $$ H10
  iintro H10
  iapply (ld_whole c zero3) $$ Hcar
  iintro Hcar
  iapply (ld_whole c zero4) $$ H9
  iintro H9
  iapply (ret_of (c := c) .rfl)
  iapply HQ $$ [HO] [Hzr] [Hzs] [H1] [H9] [H10] [H11] [Hcar] [H13]
  · iexact HO
  · iexact Hzr
  · iexact Hzs
  · iexact H1
  · unfold anyOf; iexists _; iexact H9
  · iexact H10
  · unfold anyOf; iexists _; iexact H11
  · unfold anyOf; iexists _; iexact Hcar
  · iexact H13

end Sync

end Cert.KernelIdeal.Scan

end
-- ==== Proof.Ideal.Whole.lean ====
/-
  THE WHOLE BODY at one device: its parts in their order.
-/
module

public import proofs.«01_k».proof.Proof.Ideal.Sync

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow

variable {F : FTy → Type} [FloatOps F]

local notation "𝕄" => MT nD τ sig Unit (Elt F) ℕ UU ℕ

variable (m : (ℓ : Loc nD τ sig) → Buf (Elt F) ℓ) (K : Dev nD × Fin 3 → ℕ) (c : Dev nD)

/-- The nine scratch buffers at any contents. -/
def scratch : sProp 𝕄 :=
  iprop(anyOf (F := F) c (Memref.whole cc0_scratch0 : Memref sig .tc .vmem S8x32x16x512 .f32) ∗ anyOf (F := F) c (Memref.whole cc0_scratch1 : Memref sig .tc .vmem S8x32x16x16 .f32)
    ∗ anyOf (F := F) c (Memref.whole cc0_scratch2 : Memref sig .tc .vmem S8x32x16x16 .f32) ∗ anyOf (F := F) c (Memref.whole cc0_scratch3 : Memref sig .tc .vmem S8x32x16x512 .f32)
    ∗ anyOf (F := F) c (Memref.whole cc0_scratch4 : Memref sig .tc .vmem S8x16x16x512 .f32) ∗ anyOf (F := F) c (Memref.whole cc0_scratch5 : Memref sig .tc .vmem S8x16x16x512 .f32)
    ∗ anyOf (F := F) c (Memref.whole cc0_scratch6 : Memref sig .tc .vmem S8x16x512 .f32) ∗ anyOf (F := F) c carM ∗ anyOf (F := F) c sndM)

/-- The staged argument blocks. -/
def staged : sProp 𝕄 :=
  iprop(hold c (Memref.whole cc0_stg0_0 : Memref sig .tc .vmem S8x512x512 .f32) (xb m c) ∗ hold c (Memref.whole cc0_stg1_0 : Memref sig .tc .vmem S512x16 .f32) (Ab m c)
    ∗ hold c (Memref.whole cc0_stg2_0 : Memref sig .tc .vmem S8x512x16 .f32) (Bb m c) ∗ hold c (Memref.whole cc0_stg3_0 : Memref sig .tc .vmem S8x512x16 .f32) (Cb m c))

/-- A device's three cells closed, their counters at zero. -/
def closed : sProp 𝕄 := iprop(semVal (sndCell c) 0 ∗ semVal (rcvCell c) 0 ∗ semVal (barCell c) 0)

/-- One program after another. -/
theorem seq {α β : Type} (p : Prog (TpuEff nD τ sig (Elt F) Λ₀ .tc) α) (k : α → Prog (TpuEff nD τ sig (Elt F) Λ₀ .tc) β) (Q : β → sProp 𝕄) :
    runs c p (fun v => runs c (k v) Q) ⊢ runs c (p >>= k) Q := by
  unfold runs
  rw [wp_bind]

/-- The last chunk's store completes the output block. -/
theorem last_chunk (x : Vec F S8x512x512 .f32) (A : Vec F S512x16 .f32) (B C : Vec F S8x512x16 .f32) (carry : Vec F S8x16x512 .f32)
    (arg4 : Memref sig .tc .vmem S8x512x512 .f32) (arg8 : Memref sig .tc .vmem S8x32x16x512 .f32) {Q : PUnit → sProp 𝕄} {hl hx hm} :
    iprop(outs c x A B C carry arg4 arg8 15 ∗ (hold c arg8 (yall x A B C carry) -∗ hold c arg4 (outv x A B C carry) -∗ Q ⟨⟩))
      ⊢ runs c (.op (.load arg4 (Rect.unit (s := S8x512x512) ![0, 480, 0] S8x32x512.size inb_S8x512x512_S8x32x512_0_480_0).toLoadRect hl) fun _ =>
          .op (.store arg4 (Rect.unit (s := S8x512x512) ![0, 480, 0] S8x32x512.size inb_S8x512x512_S8x32x512_0_480_0) (slabY (yall x A B C carry) 15) Finset.univ hx hm) fun _ =>
            .ret ⟨⟩) Q := by
  refine outs_ld4 _ fun _ => outs_st4 _ (by decide) rfl rfl ?_
  refine ret_of ?_
  unfold outs
  iintro ⟨⟨H8, H4⟩, HQ⟩
  ihave H4 := (fillY_full c arg4 (yall x A B C carry)) $$ H4
  iapply HQ $$ [H8] [H4]
  · iexact H8
  · iexact H4

set_option maxHeartbeats 4000000 in
/-- The body: from the staged blocks, the scratch buffers and the protocol's state to the output block, with the cells
closed and nothing owed. -/
theorem body (Q : PUnit → sProp 𝕄) :
    iprop(invs m K c ∗ levAts L lv ∗ shake (F := F) c ∗ recvs (F := F) c ∗ sends (F := F) c ∗ owing (F := F) c (owe₀ c)
        ∗ staged m c ∗ anyOf (F := F) c (Memref.whole cc0_stg4_0 : Memref sig .tc .vmem S8x512x512 .f32) ∗ scratch (F := F) c
        ∗ (owing (F := F) c 0 -∗ closed (F := F) c -∗ staged m c
            -∗ hold c (Memref.whole cc0_stg4_0 : Memref sig .tc .vmem S8x512x512 .f32) (outAt m c) -∗ scratch (F := F) c -∗ Q ⟨⟩))
      ⊢ runs c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10) Q := by
  rw [cc0_body_eq_skeleton]
  unfold cc0_body_skel staged scratch closed
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton]
  iintro ⟨#HI, #Hlev, Hsh, Hrc, Hsd, HO, ⟨H0, H1, H2, H3⟩, H4, ⟨H5, H6, H7, H8, H9, H10, H11, H12, H13⟩, HQ⟩
  iapply (seq c)
  iapply (part1 m K c _ _ _ _ _ _ _ _ _ _ _ _ _ _ _ _ _ _ _ _ _ _ _ _ _)
  isplitr; · iexact HI
  isplitr; · iexact Hlev
  isplitl [Hsh]; · iexact Hsh
  isplitl [HO]; · iexact HO
  isplitl [H12]; · iexact H12
  iintro %a %b HO HzB Hbp Hkp
  iapply (seq c)
  iapply (part2 c (xb m c) (Ab m c) (Bb m c) (Cb m c) _ _ _ _ _ _ _ _ _ _ _ _ _ _ _ _ _ _ _ _ _ _ _ _ _ _ _ _ _ _ _)
  isplitl [H0 H2 H3 H5 H6 H7]
  · unfold slabs
    isplitl [H0]; · iexact H0
    isplitl [H2]; · iexact H2
    isplitl [H3]; · iexact H3
    isplitl [H5]; · iapply (fillX_none c _ (xb m c)); iexact H5
    isplitl [H6]; · iapply (fillB_none c _ (Bb m c)); iexact H6
    iapply (fillB_none c _ (Cb m c)); iexact H7
  isplitl [H1]; · iexact H1
  iintro %v56 %h56 HS H1
  iapply (seq c)
  iapply (part3 _ _ _ _ _ _ _ _ _ _ _ _ _ _ _ _ _ _ _ _ _ _ _ _ _ v56 h56)
  isplitl [HS]; · iexact HS
  iintro HS
  iapply (seq c)
  iapply (part4 _ _ _ _ _ _ _ _ _ _ _ _ _ _ _ _ _ _ _ _ _ _ _ _ _)
  isplitl [HS]; · iexact HS
  iintro %v101 %h101 HS
  iapply (seq c)
  iapply (part5 _ _ _ _ _ _ _ _ _ _ _ _ _ _ _ _ _ _ _ _ _ _ _ _ _ v101 h101)
  isplitl [HS]; · iexact HS
  iintro %v126 %h126 HS
  iapply (seq c)
  iapply (part6 _ _ _ _ _ _ _ _ _ _ _ _ _ _ _ _ _ _ _ _ _ _ _ _ _ v126 h126)
  isplitl [HS]; · iexact HS
  iintro HS
  iapply (seq c)
  iapply (part7 _ _ _ _ _ _ _ _ _ _ _ _ _ _ _ _ _ _ _ _ _ _ _ _ _)
  isplitl [HS]; · iexact HS
  iintro %v171 %h171 HS
  iapply (seq c)
  iapply (part8 _ _ _ _ _ _ _ _ _ _ _ _ _ _ _ _ _ _ _ _ _ _ _ _ _ v171 h171)
  isplitl [HS]; · iexact HS
  iintro %v195 %h195 HS
  iapply (seq c)
  iapply (part9 _ _ _ _ _ _ _ _ _ _ _ _ _ _ _ _ _ _ _ _ _ _ _ _ _ v195 h195)
  isplitl [HS]; · iexact HS
  iintro %v219 %h219 HS
  iapply (seq c)
  iapply (part10 _ _ _ _ _ _ _ _ _ _ _ _ _ _ _ _ _ _ _ _ _ _ _ _ _ v219 h219)
  isplitl [HS]; · iexact HS
  iintro %v241 %h241 HS
  iapply (seq c)
  iapply (part11 _ _ _ _ _ _ _ _ _ _ _ _ _ _ _ _ _ _ _ _ _ _ _ _ _ v241 h241)
  isplitl [HS]; · iexact HS
  iintro HS
  iapply (seq c)
  iapply (part12 c (xb m c) (Ab m c) (Bb m c) (Cb m c) _ _ _ _ _ _ _ _ _ _ _ _ _ _ _ _ _ _ _ _ _ _ _ _ _ _ _ _ _ _ _)
  isplitl [HS]; · iexact HS
  isplitl [H8]; · iexact H8
  isplitl [H9]; · iexact H9
  isplitl [H10]; · iexact H10
  iintro H0 H2 H3 H5 H6 H7 H8 H9 H10
  iapply (seq c)
  iapply (part13 m K c _ _ _ _ _ _ _ _ _ _ _ _ _ _ _ _ _ _ _ _ _ _ _ _ a b _)
  isplitr; · iexact HI
  isplitr; · iexact Hlev
  isplitl [Hrc]; · iexact Hrc
  isplitl [Hsd]; · iexact Hsd
  isplitl [Hbp]; · iexact Hbp
  isplitl [Hkp]; · iexact Hkp
  isplitl [HO]; · iexact HO
  isplitl [H1]; · iexact H1
  isplitl [H9]; · unfold anyOf; iexists _; iexact H9
  isplitl [H10]; · iexact H10
  isplitl [H11]; · iexact H11
  isplitl [H13]; · iexact H13
  iintro %v319 HO HzR HzS H1 H9 H10 H11 H12 H13
  iapply (seq c)
  iapply (part14 c (xb m c) (Ab m c) (Bb m c) (Cb m c) (carryAt m c) _ _ _ _ _ _ _ _ _ _ _ _ _ _ _ _ _ _ _ _ _ _ _ _ _ _ _ _ _ _ v319 _)
  isplitl [H7]; · iexact H7
  isplitl [H8]; · iexact H8
  isplitl [H9]; · iexact H9
  isplitl [H4]; · iexact H4
  iintro %v336 %h336 H7 H9 HS
  rw [h336]
  iapply (seq c)
  iapply (part15 c (xb m c) (Ab m c) (Bb m c) (Cb m c) (carryAt m c) _ _ _ _ _ _ _ _ _ _ _ _ _ _ _ _ _ _ _ _ _ _ _ _ _ _ _ _ _ _ _)
  isplitl [HS]; · iexact HS
  iintro HS
  iapply (seq c)
  iapply (part16 c (xb m c) (Ab m c) (Bb m c) (Cb m c) (carryAt m c) _ _ _ _ _ _ _ _ _ _ _ _ _ _ _ _ _ _ _ _ _ _ _ _ _ _ _ _ _ _ _)
  isplitl [HS]; · iexact HS
  iintro HS
  simp only [Prog.lift, Prog.bind_op, Prog.bind_ret, Prog.pure_eq_ret]
  iapply (last_chunk c (xb m c) (Ab m c) (Bb m c) (Cb m c) (carryAt m c) (Memref.whole cc0_stg4_0) (Memref.whole cc0_scratch3))
  isplitl [HS]; · iexact HS
  iintro H8 H4
  iapply HQ $$ [HO] [HzR HzS HzB] [H0 H1 H2 H3] [H4] [H5 H6 H7 H8 H9 H10 H11 H12 H13]
  · iexact HO
  · isplitl [HzS]; · iexact HzS
    isplitl [HzR]; · iexact HzR
    iexact HzB
  · isplitl [H0]; · iexact H0
    isplitl [H1]; · iexact H1
    isplitl [H2]; · iexact H2
    iexact H3
  · iexact H4
  · isplitl [H5]; · unfold anyOf; iexists _; iexact H5
    isplitl [H6]; · unfold anyOf; iexists _; iexact H6
    isplitl [H7]; · unfold anyOf; iexists _; iexact H7
    isplitl [H8]; · unfold anyOf; iexists _; iexact H8
    isplitl [H9]; · unfold anyOf; iexists _; iexact H9
    isplitl [H10]; · unfold anyOf; iexists _; iexact H10
    isplitl [H11]; · iexact H11
    isplitl [H12]; · iexact H12
    iexact H13

end Cert.KernelIdeal.Scan

end
-- ==== Proof.Ideal.Point.lean ====
/-
  ONE DEVICE'S POINT: what a device starts from and ends with, and that the kernel's body takes the one to the other.
-/
module

public import proofs.«01_k».proof.Proof.Ideal.Whole
public import proofs.«01_k».proof.Proof.Gen.KernelIdeal.Points
public import Idealize.ShloMosaic.Lib.Pipeline.ValueKit.Geometry

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The machine at launch: memory `m`, all counters zero. -/
abbrev init : MemSt nD τ sig (Elt F) := ⟨m, fun _ => 0, ρ⟩

/-! ## What a device starts from and ends with -/

/-- The kernel's own two semaphores, -/
abbrev osem : Fin 2 → SemLoc sig := fun | 0 => .dma sndS.sem | 1 => .dma rcvS.sem
/-- all three of the ring's, -/
abbrev csem : Fin 3 → SemLoc sig := fun | 0 => .reg barS | 1 => .dma sndS.sem | 2 => .dma rcvS.sem
/-- and the cells they are on the devices. -/
abbrev kcell (ck : Dev nD × Fin 3) : GSem nD τ sig := ((ck.1 : Thread nD τ), csem ck.2)

/-- The ring's state of one device under the invariants' names `K`, but for the credit. -/
def ghost (K : Dev nD × Fin 3 → ℕ) (c : Dev nD) : sProp 𝕄 :=
  iprop(invs m K c
    ∗ (atPos ER (barCell c) 0 ∅ 0 ∗ atPos ER (sndCell c) 0 ∅ 0 ∗ atPos ER (rcvCell c) 0 ∅ 0)
    ∗ (reached ER (barCell (nxt c)) 0 ∗ reached ER (barCell (prv c)) 0 ∗ reached ER (rcvCell c) 0 ∗ reached ER (sndCell c) 0)
    ∗ (dutyTok ER (barCell (nxt c)) 0 false ∗ dutyTok ER (barCell (prv c)) 0 true ∗ dutyTok ER (rcvCell (nxt c)) 0 false ∗ dutyTok ER (sndCell c) 0 false))

/-- A device's credit: two units at its barrier, the transfer's at its receive cell if it receives. -/
def credit (c : Dev nD) : sProp 𝕄 :=
  iprop(cred (tallyAt (barCell c) () 2) ∗ cred (tallyAt (rcvCell c) () (if Recvs c then N else 0)))

/-- What a device starts from, its buffers apart. -/
def start (c : Dev nD) : sProp 𝕄 := iprop((∃ K, ghost m K c) ∗ credit (F := F) c ∗ levAts L lv)

/-- The proof data of the kernel's one point: the arguments stay, the output block is the computed one; before the
point all is owed, after it nothing, the scratch buffers back and the three cells closed. -/
def dats (_ : Fin 1) (c : Dev nD) : Dat τ (Elt F) Unit ℕ UU ℕ cfg0 c where
  A w := (init m ρ).mem ((cfg0.win w).arr.view.loc (c : Thread nD τ))
  after w _ := match w with
    | ⟨0, _⟩ => xb m c
    | ⟨1, _⟩ => Ab m c
    | ⟨2, _⟩ => Bb m c
    | ⟨3, _⟩ => Cb m c
    | ⟨4, _⟩ => outAt m c
  Φ t := match t with
    | ⟨0, _⟩ => iprop(start m c ∗ scratch (F := F) c)
    | ⟨_ + 1, _⟩ => iprop(closed (F := F) c ∗ scratch (F := F) c)
  q _ := fullShare
  owed t := match t with
    | ⟨0, _⟩ => owe₀ c
    | ⟨_ + 1, _⟩ => 0

/-! ## The body at the one point -/

/-- What the fetch brings of a window whose block is the whole array: at each index the array's element there. -/
theorem fetched_at (c : Dev nD) (w : Fin cfg0.W) (h : ∀ a, (cfg0.win w).index t0_0 a = 0) (d) (j : (cfg0.win w).block.Idx)
    (hm : (cfg0.win w).moved (cfg0.grid.coords t0_0) j = true) (i : (cfg0.win w).shape.Idx) (hi : ∀ a, (i a).val = (j a).val) :
    (dats m ρ 0 c).fetched w t0_0 d j = (cfg0.win w).arr.view.read (Elt F) ((dats m ρ 0 c).A w) i := by
  have e : ∀ y, (∀ a, (y a).val = (i a).val) → ((cfg0.win w).rect t0_0).emb y = i := fun y hy => funext fun a => Fin.ext (by
    rw [Pipeline.Window.rect_emb_val_of_index_zero _ _ _ (h a)]
    exact hy a)
  unfold Dat.fetched Pipeline.Window.fill Dat.blockOf
  rw [dif_pos hm]
  exact congrArg ((cfg0.win w).arr.view.read (Elt F) ((dats m ρ 0 c).A w)) (e _ fun a => (hi a).symm)

/-- Each argument's staging buffer holds the device's block when the body starts. -/
theorem before_x (c : Dev nD) (d) : (dats m ρ 0 c).before 0 t0_0 d = xb m c := by
  unfold Dat.before
  rw [if_pos (fetch0_0 t0_0)]
  exact funext fun j => (fetched_at m ρ c 0 (by decide) d j (((cfg0.win 0).moved_iff _ _).mpr fun a => (j a).isLt) j fun _ => rfl).trans rfl
/-- Before the body the window of the rates holds the argument. -/
theorem before_A (c : Dev nD) (d) : (dats m ρ 0 c).before 1 t0_0 d = Ab m c := by
  unfold Dat.before
  rw [if_pos (fetch0_1 t0_0)]
  exact funext fun j => (fetched_at m ρ c 1 (by decide) d j (((cfg0.win 1).moved_iff _ _).mpr fun a => (j a).isLt) j fun _ => rfl).trans rfl
/-- Before the body the window of the input weights holds the argument. -/
theorem before_B (c : Dev nD) (d) : (dats m ρ 0 c).before 2 t0_0 d = Bb m c := by
  unfold Dat.before
  rw [if_pos (fetch0_2 t0_0)]
  exact funext fun j => (fetched_at m ρ c 2 (by decide) d j (((cfg0.win 2).moved_iff _ _).mpr fun a => (j a).isLt) j fun _ => rfl).trans rfl
/-- Before the body the window of the output weights holds the argument. -/
theorem before_C (c : Dev nD) (d) : (dats m ρ 0 c).before 3 t0_0 d = Cb m c := by
  unfold Dat.before
  rw [if_pos (fetch0_3 t0_0)]
  exact funext fun j => (fetched_at m ρ c 3 (by decide) d j (((cfg0.win 3).moved_iff _ _).mpr fun a => (j a).isLt) j fun _ => rfl).trans rfl

/-- The output array after the run is the computed block. -/
theorem final_out (c : Dev nD) : (dats m ρ 0 c).arrAt 4 cfg0.N = outAt m c :=
  (dats m ρ 0 c).arrAt_eq_of_after_last 4 t0_0 (by decide) (outAt m c) (fun j => rfl) (Memref.isWhole_whole _)

/-- What the body finds at the point, -/
def found (c : Dev nD) : sProp 𝕄 :=
  iprop((start m c ∗ scratch (F := F) c) ∗ (dats m ρ 0 c).owesAt () t0_0.castSucc
    ∗ (∃ d, hold c (Memref.whole cc0_stg0_0 : Memref sig .tc .vmem S8x512x512 .f32) ((dats m ρ 0 c).before 0 t0_0 d))
    ∗ (∃ d, hold c (Memref.whole cc0_stg1_0 : Memref sig .tc .vmem S512x16 .f32) ((dats m ρ 0 c).before 1 t0_0 d))
    ∗ (∃ d, hold c (Memref.whole cc0_stg2_0 : Memref sig .tc .vmem S8x512x16 .f32) ((dats m ρ 0 c).before 2 t0_0 d))
    ∗ (∃ d, hold c (Memref.whole cc0_stg3_0 : Memref sig .tc .vmem S8x512x16 .f32) ((dats m ρ 0 c).before 3 t0_0 d))
    ∗ (∃ d, hold c (Memref.whole cc0_stg4_0 : Memref sig .tc .vmem S8x512x512 .f32) ((dats m ρ 0 c).before 4 t0_0 d)))

/-- and what it leaves. -/
def left (c : Dev nD) : sProp 𝕄 :=
  iprop((closed (F := F) c ∗ scratch (F := F) c) ∗ (dats m ρ 0 c).owesAt () t0_0.succ
    ∗ hold c (Memref.whole cc0_stg0_0 : Memref sig .tc .vmem S8x512x512 .f32) (xb m c)
    ∗ hold c (Memref.whole cc0_stg1_0 : Memref sig .tc .vmem S512x16 .f32) (Ab m c)
    ∗ hold c (Memref.whole cc0_stg2_0 : Memref sig .tc .vmem S8x512x16 .f32) (Bb m c)
    ∗ hold c (Memref.whole cc0_stg3_0 : Memref sig .tc .vmem S8x512x16 .f32) (Cb m c)
    ∗ hold c (Memref.whole cc0_stg4_0 : Memref sig .tc .vmem S8x512x512 .f32) (outAt m c))

/-- The body takes the one to the other. -/
theorem at_point (c : Dev nD) : BodyObligation (dats (F := F) m ρ 0 c) (defs₀ (F := F)) 𝒱₀ () Set.univ := fun t => by
  rw [fin_N0 t, bigSep_W0, bigSep_W0]
  show found m ρ c ⊢ runs c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _)
    (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)
    (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10) fun _ => left m ρ c
  unfold found start ghost credit
  iintro ⟨⟨⟨⟨%K, HI, ⟨HaB, HaS, HaV⟩, ⟨HrN, HrP, HrV, HrS⟩, HtN, HtP, HtV, HtS⟩, ⟨HcB, HcV⟩, Hlev⟩, Hscr⟩, Ho, ⟨%d0, H0⟩, ⟨%d1, H1⟩, ⟨%d2, H2⟩, ⟨%d3, H3⟩, ⟨%d4, H4⟩⟩
  ihave H0 := (Entails.of_eq (congrArg (hold c _) (before_x m ρ c d0))) $$ H0
  ihave H1 := (Entails.of_eq (congrArg (hold c _) (before_A m ρ c d1))) $$ H1
  ihave H2 := (Entails.of_eq (congrArg (hold c _) (before_B m ρ c d2))) $$ H2
  ihave H3 := (Entails.of_eq (congrArg (hold c _) (before_C m ρ c d3))) $$ H3
  iapply (body m K c fun _ => left m ρ c)
  isplitl [HI]; · iexact HI
  isplitl [Hlev]; · iexact Hlev
  isplitl [HaB HrN HrP HrV HtN HtP HcB]
  · unfold shake
    isplitl [HaB]; · iexact HaB
    isplitl [HrN]; · iexact HrN
    isplitl [HrP]; · iexact HrP
    isplitl [HrV]; · iexact HrV
    isplitl [HtN]; · iexact HtN
    isplitl [HtP]; · iexact HtP
    iexact HcB
  isplitl [HaV HcV]
  · unfold recvs
    isplitl [HaV]; · iexact HaV
    iexact HcV
  isplitl [HaS HrS HtV HtS]
  · unfold sends
    isplitl [HaS]; · iexact HaS
    isplitl [HrS]; · iexact HrS
    isplitl [HtV]; · iexact HtV
    iexact HtS
  isplitl [Ho]
  · unfold Dat.owesAt Pipeline.owesWithin owing
    icases Ho with ⟨%W, %hW, HO⟩
    iexists W
    iexact HO
  isplitl [H0 H1 H2 H3]
  · unfold staged
    isplitl [H0]; · iexact H0
    isplitl [H1]; · iexact H1
    isplitl [H2]; · iexact H2
    iexact H3
  isplitl [H4]
  · unfold anyOf; iexists _; iexact H4
  isplitl [Hscr]; · iexact Hscr
  iintro HO Hcl Hst Hout Hscr
  unfold left
  isplitl [Hcl Hscr]
  · isplitl [Hcl] <;> iassumption
  isplitl [HO]
  · unfold Dat.owesAt Pipeline.owesWithin owing
    icases HO with ⟨%W, HO⟩
    iexists W
    isplitr
    · ipureintro; exact fun p _ => Or.inl trivial
    iexact HO
  unfold staged
  icases Hst with ⟨H0, H1, H2, H3⟩
  isplitl [H0]; · iexact H0
  isplitl [H1]; · iexact H1
  isplitl [H2]; · iexact H2
  isplitl [H3]; · iexact H3
  iexact Hout

end Cert.KernelIdeal.Scan

end
-- ==== Proof.Ideal.Launch.lean ====
/-
  THE LAUNCH: the ring's ghost state is made once for all devices, the tokens of the duties dealt to the devices that
  pay them, and every device runs its point. The run ends with each output block computed, the arguments as they
  were and all counters at zero.
-/
module

public import proofs.«01_k».proof.Proof.Ideal.Point
public import Idealize.ShloMosaic.Lib.Pipeline.CollectiveSegs

@[expose] public section

set_option maxRecDepth 16384

noncomputable section

namespace Cert.KernelIdeal.Scan

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.VecWindow
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The ring's state at launch -/

/-- The launch's own semaphores are the send and receive cells'. -/
theorem own_facts : Pipeline.OwnSemFacts cfg0.spec osem := by decide

/-- Every window is held with the full share. -/
theorem full_share (c : Dev nD) (w : Fin cfg0.W) : (dats m ρ 0 c).share w = fullShare := by unfold Dat.share; split <;> rfl

/-- Different devices and different numbers name different semaphores. -/
theorem kcell_inj : Function.Injective (kcell : Dev nD × Fin 3 → GSem nD τ sig) := by
  rintro ⟨c, k⟩ ⟨c', k'⟩ h
  obtain rfl : c = c' := congrArg (fun g : GSem nD τ sig => g.1.1) h
  have hk : csem k = csem k' := congrArg Prod.snd h
  obtain rfl : k = k' := by clear h; revert k k'; decide
  rfl
/-- The semaphores of the ring: three on every device. -/
def ringCells : Finset (GSem nD τ sig) := Finset.univ.map ⟨kcell, kcell_inj⟩

/-- The duties of a device's cells: the barrier's two, the send cell's, the receive cell's. -/
abbrev duty : Fin 4 → SemLoc sig × Bool := fun | 0 => (.reg barS, false) | 1 => (.reg barS, true) | 2 => (.dma sndS.sem, false) | 3 => (.dma rcvS.sem, false)
/-- Their tokens. -/
abbrev tokOf (cj : Dev nD × Fin 4) : GSem nD τ sig × ℕ × Bool := (((cj.1 : Thread nD τ), (duty cj.2).1), 0, (duty cj.2).2)
/-- Different devices and different numbers name different signals. -/
theorem tokOf_inj : Function.Injective (tokOf : Dev nD × Fin 4 → GSem nD τ sig × ℕ × Bool) := by
  rintro ⟨c, j⟩ ⟨c', j'⟩ h
  obtain rfl : c = c' := congrArg (fun x : GSem nD τ sig × ℕ × Bool => x.1.1.1) h
  have hj : duty j = duty j' := congrArg (fun x : GSem nD τ sig × ℕ × Bool => (x.1.2, x.2.2)) h
  obtain rfl : j = j' := by clear h; revert j j'; decide
  rfl
/-- The signals of the ring: four for every device. -/
def ringToks : Finset (GSem nD τ sig × ℕ × Bool) := Finset.univ.map ⟨tokOf, tokOf_inj⟩

/-- The launch's element of the algebra: the pipeline's part and the ring's. -/
def u₀ : UU := (initOf (Pipeline.cells cfgs cellOf_inj) (Pipeline.launchToks cfgs cellOf_inj), initOf ringCells ringToks)

/-- The tokens of a device's own cells, as they are made, -/
def made (c : Dev nD) : sProp 𝕄 :=
  iprop(dutyTok ER (barCell c) 0 false ∗ dutyTok ER (barCell c) 0 true ∗ dutyTok ER (sndCell c) 0 false ∗ dutyTok ER (rcvCell c) 0 false)
/-- and those of the duties it pays. -/
def pays (c : Dev nD) : sProp 𝕄 :=
  iprop(dutyTok ER (barCell (nxt c)) 0 false ∗ dutyTok ER (barCell (prv c)) 0 true ∗ dutyTok ER (rcvCell (nxt c)) 0 false ∗ dutyTok ER (sndCell c) 0 false)

/-- A device's positions, each with the mark that round 0 is reached. -/
def marks (c : Dev nD) : sProp 𝕄 := bigSep Finset.univ fun k : Fin 3 => iprop(atPos ER (kcell (c, k)) 0 ∅ 0 ∗ reached ER (kcell (c, k)) 0)

/-- What the launch's element gives a device, -/
def dealt (c : Dev nD) : sProp 𝕄 :=
  iprop((bigSep Finset.univ fun k : Fin 3 => roundState ER (sch m) (kcell (c, k)) 0) ∗ marks (F := F) c ∗ made (F := F) c)
/-- and what it has when the invariants are made. -/
def ready (c : Dev nD) : sProp 𝕄 := iprop(∃ K, ghost m K c)

/-- A separating conjunction over three numbers, written out. -/
theorem sep_fin3 (Φ : Fin 3 → sProp 𝕄) : bigSep Finset.univ Φ = iprop(Φ 0 ∗ Φ 1 ∗ Φ 2) := bigSep_univ_eq_bigSepL [0, 1, 2] (by decide) (by decide) Φ
/-- A separating conjunction over four numbers, written out. -/
theorem sep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-- The ring's part of the launch's element makes every device's share. -/
theorem deal : BI.own (ER (initOf ringCells ringToks)) ⊢ (|==> bigSep Finset.univ (dealt m) : sProp 𝕄) := by
  have hcells (Φ : GSem nD τ sig → sProp 𝕄) : bigSep ringCells Φ = bigSep Finset.univ fun c : Dev nD => bigSep Finset.univ fun k : Fin 3 => Φ (kcell (c, k)) := by
    unfold ringCells; rw [bigSep_map, bigSep_univ_prod]; rfl
  have htoks : bigSep ringToks (fun x => (dutyTok ER x.1 x.2.1 x.2.2 : sProp 𝕄)) = bigSep Finset.univ fun c : Dev nD => made c := by
    unfold ringToks; rw [bigSep_map, bigSep_univ_prod]
    exact bigSep_congr fun c _ => by unfold made; rw [sep_fin4]; rfl
  iintro H
  imod (Rounds.fund ER (sch m) ringCells ringToks) $$ H with ⟨Hs, Hr, Ha, Ht⟩
  imodintro
  ihave Hs := (Entails.of_eq (hcells fun g => roundState ER (sch m) g 0)) $$ Hs
  ihave Ha := (Entails.of_eq (hcells fun g => atPos ER g 0 ∅ 0)) $$ Ha
  ihave Hr := (Entails.of_eq (hcells fun g => reached ER g 0)) $$ Hr
  ihave Ht := (Entails.of_eq htoks) $$ Ht
  unfold dealt marks
  simp only [bigSep_sep']
  isplitl [Hs]; · iexact Hs
  isplitl [Ha Hr]
  · isplitl [Ha] <;> iassumption
  iexact Ht

/-- The counters the launch hands a device are those of its three cells. -/
theorem own_sems (c : Dev nD) : (Pipeline.ownSems0 (Ix := Unit) (Name := ℕ) (U := UU) (Lvl := ℕ) (Val := Elt F) (τ := τ) osem c : sProp 𝕄)
    = iprop(semVal (sndCell c) 0 ∗ semVal (rcvCell c) 0) := by
  rw [Pipeline.ownSems0_eq_of_list c osem [0, 1] (by decide) (by decide)]; rfl
/-- The counters that no call owns are the barrier counter alone. -/
theorem other_sems (c : Dev nD) : (unscopedSems0 c : sProp 𝕄) = semVal (barCell c) 0 := by
  unfold unscopedSems0; rw [bigSep_eq_bigSepL_of_eq [SemLoc.reg barS] (by decide) (by decide)]; rfl

/-- A device's counters and round states become its invariants. -/
theorem open_cells (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (sch m) κ (kcell (c, k)))) ∗ marks (F := F) c ∗ made (F := F) c) := by
  have hinv : iprop((bigSep Finset.univ fun k : Fin 3 => semVal (kcell (c, k)) 0) ∗ bigSep Finset.univ fun k : Fin 3 => roundState ER (sch m) (kcell (c, k)) 0)
      ⊢ (|={Set.univ}=> bigSep Finset.univ fun k => iprop(∃ κ : ℕ, cellInv ER (sch m) κ (kcell (c, k))) : sProp 𝕄) := by
    rw [← bigSep_sep']
    exact (bigSep_mono fun k _ => (Rounds.body_intro ER (sch m) (kcell (c, k))).trans inv_alloc).trans (bigSep_fupd _ _)
  have hval : iprop((semVal (sndCell c) 0 ∗ semVal (rcvCell c) 0) ∗ semVal (barCell c) 0) ⊢ (bigSep Finset.univ fun k : Fin 3 => semVal (kcell (c, k)) 0 : sProp 𝕄) := by
    rw [sep_fin3]
    iintro ⟨⟨HS, HV⟩, HB⟩
    isplitl [HB]; · iexact HB
    isplitl [HS] <;> iassumption
  rw [own_sems, other_sems]
  unfold dealt
  iintro ⟨Ho, Hu, Hs, Hm⟩
  ihave Hv := hval $$ [Ho Hu]
  · isplitl [Ho] <;> iassumption
  imod hinv $$ [Hv Hs] with HI
  · isplitl [Hv] <;> iassumption
  imodintro
  isplitl [HI] <;> iassumption

/-- The invariants of all cells under the names `K`, and that all are at round 0. -/
def records (K : Dev nD × Fin 3 → ℕ) : sProp 𝕄 :=
  iprop((bigSep Finset.univ fun ck : Dev nD × Fin 3 => cellInv ER (sch m) (K ck) (kcell ck)) ∗ bigSep Finset.univ fun ck : Dev nD × Fin 3 => reached ER (kcell ck) 0)
/-- The records can be used any number of times. -/
instance records_persistent (K : Dev nD × Fin 3 → ℕ) : BI.Persistent (records m K) := by unfold records; infer_instance

/-- The records hold the invariant of every semaphore. -/
theorem record_inv (K : Dev nD × Fin 3 → ℕ) (ck : Dev nD × Fin 3) : records m K ⊢ cellInv ER (sch m) (K ck) (kcell ck) := by
  have e : (bigSep Finset.univ fun ck : Dev nD × Fin 3 => (cellInv ER (sch m) (K ck) (kcell ck) : sProp 𝕄)) ⊢ cellInv ER (sch m) (K ck) (kcell ck) :=
    bigSep_elim (Finset.mem_univ ck)
  unfold records
  iintro ⟨H, -⟩
  iapply e
  iexact H
/-- The records say of every semaphore that round 0 is reached. -/
theorem record_reached (K : Dev nD × Fin 3 → ℕ) (ck : Dev nD × Fin 3) : records m K ⊢ reached ER (kcell ck) 0 := by
  have e : (bigSep Finset.univ fun ck : Dev nD × Fin 3 => (reached ER (kcell ck) 0 : sProp 𝕄)) ⊢ reached ER (kcell ck) 0 := bigSep_elim (Finset.mem_univ ck)
  unfold records
  iintro ⟨-, H⟩
  iapply e
  iexact H

/-- What is a device's alone: its positions and the tokens it pays with. -/
def lone (c : Dev nD) : sProp 𝕄 := iprop((bigSep Finset.univ fun k : Fin 3 => atPos ER (kcell (c, k)) 0 ∅ 0) ∗ pays (F := F) c)

/-- With the records that makes it ready. -/
theorem ready_intro (K : Dev nD × Fin 3 → ℕ) (c : Dev nD) : iprop(records m K ∗ lone (F := F) c) ⊢ ready m c := by
  unfold lone pays ready ghost invs
  rw [sep_fin3]
  iintro ⟨#HR, Ha, Ht⟩
  iexists K
  isplitr
  · isplitr; · iapply (record_inv m K (c, 0)); iexact HR
    isplitr; · iapply (record_inv m K (c, 1)); iexact HR
    isplitr; · iapply (record_inv m K (c, 2)); iexact HR
    isplitr; · iapply (record_inv m K (nxt c, 0)); iexact HR
    isplitr; · iapply (record_inv m K (prv c, 0)); iexact HR
    iapply (record_inv m K (nxt c, 2)); iexact HR
  isplitl [Ha]; · iexact Ha
  isplitr
  · isplitr; · iapply (record_reached m K (nxt c, 0)); iexact HR
    isplitr; · iapply (record_reached m K (prv c, 0)); iexact HR
    isplitr; · iapply (record_reached m K (c, 2)); iexact HR
    iapply (record_reached m K (c, 1)); iexact HR
  iexact Ht

/-- The tokens go round the ring: each to the device that pays its duty. -/
theorem tokens : (bigSep Finset.univ fun c : Dev nD => (made c : sProp 𝕄)) ⊢ bigSep Finset.univ fun c : Dev nD => pays c := by
  unfold made pays
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (rcvCell c) 0 false : sProp 𝕄))]
  iintro ⟨H1, H2, H3, H4⟩
  isplitl [H1]; · iexact H1
  isplitl [H2]; · iexact H2
  isplitl [H4]; · iexact H4
  iexact H3

/-- A persistent fact goes to every summand. -/
theorem sep_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- From every device's invariants, marks and tokens to every device ready. -/
theorem regroup :
    (bigSep Finset.univ fun c : Dev nD => iprop((bigSep Finset.univ fun k => iprop(∃ κ : ℕ, cellInv ER (sch m) κ (kcell (c, k)))) ∗ marks (F := F) c ∗ made (F := F) c) : sProp 𝕄)
      ⊢ bigSep Finset.univ (ready m) := by
  have hmarks : (bigSep Finset.univ fun c : Dev nD => (marks c : sProp 𝕄))
      = iprop((bigSep Finset.univ fun c : Dev nD => bigSep Finset.univ fun k : Fin 3 => atPos ER (kcell (c, k)) 0 ∅ 0)
          ∗ bigSep Finset.univ fun ck : Dev nD × Fin 3 => reached ER (kcell ck) 0) := by
    unfold marks
    rw [bigSep_univ_prod, ← bigSep_sep']
    exact bigSep_congr fun c _ => bigSep_sep' ..
  rw [bigSep_sep', bigSep_sep', hmarks, ← bigSep_univ_prod (fun ck : Dev nD × Fin 3 => iprop(∃ κ : ℕ, cellInv ER (sch m) κ (kcell ck)))]
  iintro ⟨HI, ⟨Ha, #HR⟩, Ht⟩
  ihave HK := (BI.bigSep_exists_pi Finset.univ (fun (ck : Dev nD × Fin 3) (κ : ℕ) => (cellInv ER (sch m) κ (kcell ck) : sProp 𝕄))) $$ HI
  icases HK with ⟨%K, #HI⟩
  ihave Hp := (tokens (F := F)) $$ Ht
  iapply (sep_each (R := records m K) fun c _ => ready_intro m K c)
  isplitr
  · unfold records
    isplitr <;> iassumption
  · unfold lone
    rw [bigSep_sep']
    isplitl [Ha] <;> iassumption

/-- The one step over all devices that makes the invariants. -/
theorem prepare : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (ready m) :=
  ((bigSep_mono fun c _ => open_cells m c).trans (bigSep_fupd _ _)).trans (BI.fupd_mono (regroup m))

/-! ## The credit -/

/-- A device is after another exactly when the other is before it. -/
theorem nxt_eq {c d : Dev nD} : nxt d = c ↔ d = prv c := ⟨fun h => by rw [← h, prv_nxt], fun h => by rw [h, nxt_prv]⟩
/-- A device is before another exactly when the other is after it. -/
theorem prv_eq {c d : Dev nD} : prv d = c ↔ d = nxt c := ⟨fun h => by rw [← h, nxt_prv], fun h => by rw [h, prv_nxt]⟩

/-- A tally at one device's cell, read at the same semaphore's cell on another device. -/
theorem tally_at (a c : Dev nD) (sm : SemLoc sig) (k : ℕ) :
    (tallyAt ((a : Thread nD τ), sm) () k : CellTallies nD τ sig Unit) ((c : Thread nD τ), sm) () = if a = c then k else 0 := by
  rw [tallyAt_apply]
  by_cases h : a = c
  · rw [if_pos ⟨by rw [h], rfl⟩, if_pos h]
  · rw [if_neg (fun e => h (congrArg (fun g : GSem nD τ sig => g.1.1) e.1).symm), if_neg h]

/-- What device `d` owes the barrier of `c`, -/
theorem owed_bar (d c : Dev nD) : owe₀ d (barCell c) () = (if d = prv c then 1 else 0) + (if d = nxt c then 1 else 0) := by
  unfold owe₀ oweB oweR
  rw [Pi.add_apply, Finsupp.add_apply, Pi.add_apply, Finsupp.add_apply, tallyAt_ne_cell (fun h => rcv_ne_bar (congrArg Prod.snd h).symm),
    tally_at, tally_at, Finsupp.zero_apply, Nat.zero_add]
  simp only [nxt_eq, prv_eq]

/-- and its receive cell. -/
theorem owed_rcv (d c : Dev nD) : owe₀ d (rcvCell c) () = if d = prv c then (if Recvs c then N else 0) else 0 := by
  unfold owe₀ oweB oweR
  rw [Pi.add_apply, Finsupp.add_apply, Pi.add_apply, Finsupp.add_apply, tally_at,
    tallyAt_ne_cell (fun h => rcv_ne_bar (congrArg Prod.snd h)), tallyAt_ne_cell (fun h => rcv_ne_bar (congrArg Prod.snd h)),
    Finsupp.zero_apply, Nat.add_zero, Nat.add_zero]
  simp only [nxt_eq]
  by_cases h : d = prv c
  · subst h
    rw [if_pos rfl, if_pos rfl]
    simp only [sends_prv]
  · rw [if_neg h, if_neg h]

/-- The credit at launch for the barrier counter of a device: two signals. -/
theorem credit_bar (c : Dev nD) :
    tallyOn (barCell c) (launchCredit (Pipeline.owing owe₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

/-- The credit at launch for the receive counter: one transfer on a device that receives, else none. -/
theorem credit_rcv (c : Dev nD) :
    tallyOn (rcvCell c) (launchCredit (Pipeline.owing owe₀) 0 (rcvCell c)) = (tallyAt (rcvCell c) () (if Recvs c then N else 0) : CellTallies nD τ sig Unit) := by
  unfold tallyAt; refine congrArg _ (Finsupp.ext fun u => ?_); cases u
  rw [Pipeline.launchCredit_owing, Finsupp.single_eq_same, Finset.sum_congr rfl fun d _ => owed_rcv d c,
    Finset.sum_ite_eq' Finset.univ (prv c) fun _ => (if Recvs c then N else 0), if_pos (Finset.mem_univ _)]

/-- What the devices owe one another is each device's credit. -/
theorem credits (c : Dev nD) : (Pipeline.launchCred owe₀ c : sProp 𝕄) ⊢ credit (F := F) c := by
  unfold Pipeline.launchCred credit
  rw [bigSep_univ_at _ (SemLoc.reg barS), credit_bar]
  refine sep_mono_right ?_
  rw [← credit_rcv]
  exact bigSep_elim (Finset.mem_erase.mpr ⟨rcv_ne_bar, Finset.mem_univ _⟩)

/-! ## In and out of the point -/

/-- What the launch hands to a device is the state from which its body starts. -/
theorem start_intro (c : Dev nD) :
    iprop(Pipeline.unscopedRestP Pipeline.Prefetch.none cfg0.spec c (fun b => m ((c : Thread nD τ).loc b)) ∗ levAts L lv
        ∗ Pipeline.launchCred owe₀ c ∗ prngReg c (ρ c) ∗ ready m c)
      ⊢ |={Set.univ}=> iprop(start m c ∗ emp) := by
  iintro ⟨-, Hl, Hc, -, HG⟩
  ihave Hc := (credits (F := F) c) $$ Hc
  imodintro
  unfold start ready
  isplitl
  · isplitl [HG]; · iexact HG
    isplitl [Hc] <;> iassumption
  · iempintro

/-- The scratch buffers as the launch has them. -/
theorem scratch_eq (c : Dev nD) : (Pipeline.scopedRest (Ix := Unit) (Name := ℕ) (U := UU) (Lvl := ℕ) (Val := Elt F) cfg0.spec c : sProp 𝕄) = scratch (F := F) c := by
  rw [scopedRest0_eq]
  unfold scratch anyOf hold
  simp only [owns_whole]
  rfl

/-- That state and the scratch buffers are what the one grid point asks for. -/
theorem point_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(start m c ∗ scratch (F := F) c) from rfl, scratch_eq]
  iintro ⟨Hs, -, Hr⟩
  isplitl [Hs] <;> iassumption

/-- What the one grid point leaves closes the counters and gives the scratch buffers back. -/
theorem point_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(closed (F := F) c ∗ scratch (F := F) c) from rfl, scratch_eq, own_sems, other_sems]
  unfold closed
  iintro ⟨⟨HS, HV, HB⟩, Hr⟩
  isplitl [HB]; · iexact HB
  isplitl [HS HV]
  · isplitl [HS] <;> iassumption
  iexact Hr

/-- The waits for the windows lie below every level that the device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

set_option maxRecDepth 8000 in
/-- From any memory, with all counters zero, every weakly fair execution on the eight devices ends, with every window's
array as the one point leaves it and every counter at zero. -/
theorem run_arrays : θ_run defs (onTc (τ := τ) (main (F := F))) (init m ρ) (fun r =>
    (∀ (c : Dev nD) (w : Fin cfg0.W), r.2.mem ((cfg0.win w).arr.view.loc (c : Thread nD τ)) = (dats m ρ 0 c).arrAt w cfg0.N) ∧ r.2.sem = fun _ => 0) :=
  Pipeline.θ_run_region_owing_glob_pf (fun p => (cfgs p).toPCfg) (fun p => (cfgs p).toPCfg_adm) (dats m ρ) () cellOf_inj (0 : Fin 1)
    winFacts0.to₀ own_facts (Pipeline.PreFacts.none _) EP defs₀ 𝒱₀ m ρ main
    (hmain := fun _ => rfl)
    (hbody := at_point m ρ) (hne := block_pos0) (harr := arr_whole0) (hstage := stage_whole0) (hshare := full_share m ρ)
    (hdistinct := winFacts0.arr_inj)
    (O₀ := owe₀) (howed₀ := fun _ => rfl) (howedN := fun _ => rfl)
    (L := L) (lv := lv) (hL := L_of_ne) (hwaits := waits m ρ)
    (G := dealt m) (G' := ready m) (u₀ := u₀)
    (hu₀ := by
      unfold u₀
      iintro Hu
      ihave H := (ownU_pair _ _) $$ Hu
      icases H with ⟨HP, HX⟩
      imod (deal m) $$ HX with HG
      imodintro
      isplitl [HP] <;> iassumption)
    (hglob := prepare m)
    (hA := fun _ _ => rfl) (hpf := fun _ k => k.elim0)
    (X := start m) (Y := fun c => unscopedSems0 c) (Z := fun _ => iprop(emp))
    (hX := start_intro m ρ) (hin := point_in m ρ) (hout := point_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- From any memory, with all counters zero, every weakly fair execution on the eight devices ends, with each device's
output block the computed one, its arguments as they were and every counter at zero. -/
theorem run : θ_run defs (onTc (τ := τ) (main (F := F))) (init m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun _ h => ⟨fun c => ⟨(h.1 c 4).trans (final_out m ρ c), (h.1 c 0).trans ((dats m ρ 0 c).arrAt_in 0 rfl _),
    (h.1 c 1).trans ((dats m ρ 0 c).arrAt_in 1 rfl _), (h.1 c 2).trans ((dats m ρ 0 c).arrAt_in 2 rfl _),
    (h.1 c 3).trans ((dats m ρ 0 c).arrAt_in 3 rfl _)⟩, h.2⟩) (run_arrays m ρ)

end Cert.KernelIdeal.Scan

end
-- ==== Proof.Frames.lean ====
/-
  THE FRAMES: the kernel, the kernel read over the extended reals, and the reference each run to the end from every
  memory, leave their arguments as they were, and end with every semaphore counter at zero.
-/
module

public import proofs.«01_k».proof.Defs
public import proofs.«01_k».proof.Proof.Orig.Launch
public import proofs.«01_k».proof.Proof.Ideal.Launch
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The kernel on its float words. -/
theorem frame_kernel : Cert.quiescent_Kernel := fun m ρ _ =>
  (θ_run Cert.Kernel.defs _ _).mono (fun _ h => ⟨fun c => (h.1 c).2, h.2⟩) (Cert.Kernel.Scan.run m ρ)

/-- The kernel on the extended reals. -/
theorem frame_ideal : Cert.quiescent_KernelIdeal := fun m ρ _ =>
  (θ_run Cert.KernelIdeal.defs _ _).mono (fun _ h => ⟨fun c => (h.1 c).2, h.2⟩) (Cert.KernelIdeal.Scan.run m ρ)

/-- The reference, which has no semaphores. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run m ρ)

end Cert.Proof

end
-- ==== Proof.Finite.lean ====
/-
  THE PRECONDITION `bounded`, READ: where it holds, every entry of the sequence and of the weights is a real
  number, and no rate is plus infinity.
-/
module

public import proofs.«01_k».proof.Pre_bounded_KernelIdeal
public import proofs.«01_k».proof.Pre_bounded_ReferenceIdeal
public import Idealize.ShloMosaic.Lib.ReduceAll
public import Idealize.ShloMosaic.Lib.Pointwise

@[expose] public section

set_option maxRecDepth 16384

noncomputable section

namespace Cert.Proof

open Idealize.ShloMosaic

/-- The side conditions of the precondition over a device's blocks. -/
theorem bounded_facts : Cert.Pre_bounded_KernelIdeal.Facts where
  bcast_S_S8x512x512 := by decide
  reducesTo_S8x512x512_S_d0_1_2 := by decide
  h_S_ := by decide
  bcast_S_S512x16 := by decide
  reducesTo_S512x16_S_d0_1 := by decide
  bcast_S_S8x512x16 := by decide
  reducesTo_S8x512x16_S_d0_1_2 := by decide

/-- The side conditions of the precondition over whole arrays. -/
theorem bounded_whole_facts : Cert.Pre_bounded_ReferenceIdeal.Facts where
  bcast_S_S8x4096x512 := by decide
  reducesTo_S8x4096x512_S_d0_1_2 := by decide
  h_S_ := by decide
  bcast_S_S512x16 := by decide
  reducesTo_S512x16_S_d0_1 := by decide
  bcast_S_S8x4096x16 := by decide
  reducesTo_S8x4096x16_S_d0_1_2 := by decide

/-- The literal infinity. -/
theorem lit_top : Ideal.ofBits .f32 0x7F800000#32 = (⊤ : EReal) := by
  simp [Ideal.ofBits, Ideal.ieee]

/-- An extended real whose absolute value is below infinity is a real number. -/
theorem real_of_abs {v : EReal} (h : max v (-v) < ⊤) : ((v.toReal : ℝ) : EReal) = v := by
  refine EReal.coe_toReal (fun e => ?_) (fun e => ?_)
  · subst e; simp at h
  · subst e; simp at h

/-- The test of one array: where the conjunction over all its entries is true, every entry is a real number. -/
theorem real_of_test {s t u : Shape} {axes : List (Fin s.rank)} [Subsingleton t.Idx] (x : FVec Ideal s .f32)
    (z : FVec Ideal s .f32) (hz : ∀ i, z i = (⊤ : EReal)) (init : IVec u 1) (h : s.ReducesTo axes t) (hu : 0 < u.numel) (j : t.Idx)
    (e : Host.reduce IntOp.andi (cmpf .olt (Host.absf x) z) init h hu j = 1#1) (i : s.Idx) :
    ((EReal.toReal (x i) : ℝ) : EReal) = x i := by
  have h1 := Host.reduce_andi_all _ _ h hu j e i
  refine real_of_abs ?_
  have h2 : Ideal.cmp .olt (max (x i) (-(x i))) (z i) = 1#1 := h1
  rw [hz] at h2
  by_contra hn
  rw [Ideal.cmp] at h2
  simp [hn] at h2

/-- The test of the rates: where the conjunction over all entries is true, no entry is plus infinity. -/
theorem below_of_test {s t u : Shape} {axes : List (Fin s.rank)} [Subsingleton t.Idx] (x : FVec Ideal s .f32)
    (z : FVec Ideal s .f32) (hz : ∀ i, z i = (⊤ : EReal)) (init : IVec u 1) (h : s.ReducesTo axes t) (hu : 0 < u.numel) (j : t.Idx)
    (e : Host.reduce IntOp.andi (cmpf .olt x z) init h hu j = 1#1) (i : s.Idx) : x i ≠ (⊤ : EReal) := by
  have h2 : Ideal.cmp .olt (x i) (z i) = 1#1 := Host.reduce_andi_all _ _ h hu j e i
  rw [hz] at h2
  intro hn
  rw [Ideal.cmp] at h2
  simp [hn] at h2

/-- A shape of no axes has one index. -/
instance : Subsingleton (⟨0, ![]⟩ : Shape).Idx := ⟨fun _ _ => funext fun a => a.elim0⟩

/-- Where `bounded` holds of four arrays, every entry of the sequence and the weights is a real number, and no
    rate is plus infinity. -/
theorem real_of_bounded [Cert.Pre_bounded_KernelIdeal.Facts] (x : FVec Ideal ⟨3, ![8, 512, 512]⟩ .f32) (A : FVec Ideal ⟨2, ![512, 16]⟩ .f32)
    (B C : FVec Ideal ⟨3, ![8, 512, 16]⟩ .f32) (h : Cert.Pre_bounded_KernelIdeal.fn (F := Ideal) x A B C = fun _ => 1#1) :
    (∀ i, ((EReal.toReal (x i) : ℝ) : EReal) = x i) ∧ (∀ i, A i ≠ ⊤)
      ∧ (∀ i, ((EReal.toReal (B i) : ℝ) : EReal) = B i) ∧ (∀ i, ((EReal.toReal (C i) : ℝ) : EReal) = C i) := by
  have h0 := congrFun h (fun a => a.elim0)
  obtain ⟨h1, hC⟩ := IntOp.andi_eq_one.1 h0
  obtain ⟨h2, hB⟩ := IntOp.andi_eq_one.1 h1
  obtain ⟨hx, hA⟩ := IntOp.andi_eq_one.1 h2
  exact ⟨fun i => real_of_test x _ (fun _ => lit_top) _ _ _ _ hx i, fun i => below_of_test A _ (fun _ => lit_top) _ _ _ _ hA i,
    fun i => real_of_test B _ (fun _ => lit_top) _ _ _ _ hB i, fun i => real_of_test C _ (fun _ => lit_top) _ _ _ _ hC i⟩

end Cert.Proof

end
-- ==== Proof.Ideal.Read.lean ====
/-
  THE KERNEL'S COMPUTATIONS AT AN INDEX, over the extended reals.
-/
module

public import proofs.«01_k».proof.Proof.Ideal.Values
public import Idealize.ShloMosaic.Lib.Pointwise

@[expose] public section

set_option maxRecDepth 16384

noncomputable section

namespace Cert.KernelIdeal.Scan

open Cert.KernelIdeal Cert.KernelIdeal.Gen
open Idealize.ShloMosaic

/-- The decay of one step, states by lanes. -/
theorem decay1_at (A : Vec Ideal S512x16 .f32) (n : Fin 16) (d : Fin 512) : k0_pay1 A (ix2 n d) = Ideal.exp (A (ix2 d n)) := by
  pointwise [k0_pay1]

/-- The decay of one chunk. -/
theorem decay32_at (A : Vec Ideal S512x16 .f32) (n : Fin 16) (d : Fin 512) :
    k0_pay2 A (ix2 n d) = Ideal.exp (A (ix2 d n) * Ideal.ofBits .f32 0x42000000#32) := by
  pointwise [k0_pay2]

/-- The per-chunk states start from zero. -/
theorem zero_hst (i) : k0_pay56 (F := Ideal) i = 0 := by
  pointwise [k0_pay56]

/-- One step of the per-chunk states: the old state decayed, and the product of input and weight. -/
theorem step_at (D : FVec Ideal S16x512 .f32) (X : Vec Ideal S8x1x16x512 .f32) (B : Vec Ideal S8x1x16x16 .f32) (H : Vec Ideal S8x16x16x512 .f32)
    (b : Fin 8) (c n : Fin 16) (d : Fin 512) :
    k0_pay57 D X B H (ix4 b c n d) = H (ix4 b c n d) * D (ix2 n d) + X (ix4 b (0 : Fin 1) c d) * B (ix4 b (0 : Fin 1) c n) := by
  pointwise [k0_pay57]

/-- The same step, in the form that is stored. -/
theorem step_at' (D : FVec Ideal S16x512 .f32) (X : Vec Ideal S8x1x16x512 .f32) (B : Vec Ideal S8x1x16x16 .f32) (H : Vec Ideal S8x16x16x512 .f32)
    (b : Fin 8) (c n : Fin 16) (d : Fin 512) :
    k0_pay58 D X B H (ix4 b c n d) = H (ix4 b c n d) * D (ix2 n d) + X (ix4 b (0 : Fin 1) c d) * B (ix4 b (0 : Fin 1) c n) := by
  pointwise [k0_pay58, k0_pay57]

/-- A chunk's own output at a step: the sum over the states, each weighted. -/
theorem own_at (D : FVec Ideal S16x512 .f32) (X : Vec Ideal S8x1x16x512 .f32) (B C : Vec Ideal S8x1x16x16 .f32) (H : Vec Ideal S8x16x16x512 .f32)
    (b : Fin 8) (c : Fin 16) (d : Fin 512) :
    k0_pay59 D X B C H (ix4 b (0 : Fin 1) c d)
      = ∑ n : Fin 16, (H (ix4 b c n d) * D (ix2 n d) + X (ix4 b (0 : Fin 1) c d) * B (ix4 b (0 : Fin 1) c n)) * C (ix4 b (0 : Fin 1) c n) := by
  pointwise [k0_pay59, k0_pay57]

/-- The combination of the chunk ends starts from zero. -/
theorem zero_pst (i) : k0_pay60 (F := Ideal) i = 0 := by
  pointwise [k0_pay60]

/-- The stored entering state of a chunk is the running state. -/
theorem slab_at (P : Vec Ideal S8x16x512 .f32) (b : Fin 8) (n : Fin 16) (d : Fin 512) : k0_pay61 (F := Ideal) P (ix4 b (0 : Fin 1) n d) = P (ix3 b n d) := by
  pointwise [k0_pay61]

/-- One step of the combination: the running state decayed over a chunk, and the end of the chunk. -/
theorem chain_at (D : FVec Ideal S16x512 .f32) (P : Vec Ideal S8x16x512 .f32) (H : Vec Ideal S8x1x16x512 .f32) (b : Fin 8) (n : Fin 16) (d : Fin 512) :
    k0_pay62 D P H (ix3 b n d) = P (ix3 b n d) * D (ix2 n d) + H (ix4 b (0 : Fin 1) n d) := by
  pointwise [k0_pay62]

/-- The block's end state is the running state. -/
theorem fin_at (P : Vec Ideal S8x16x512 .f32) (b : Fin 8) (n : Fin 16) (d : Fin 512) : k0_pay63 (F := Ideal) P (ix3 b n d) = P (ix3 b n d) := by
  pointwise [k0_pay63]

/-- The first device takes in zero. -/
theorem zero_carry (i) : k0_pay64 (F := Ideal) i = 0 := by
  pointwise [k0_pay64]

/-- What is sent: the state taken in, decayed over the block, and the block's end state. -/
theorem sent_at (A : Vec Ideal S512x16 .f32) (P Q : Vec Ideal S8x16x512 .f32) (b : Fin 8) (n : Fin 16) (d : Fin 512) :
    k0_pay65 A P Q (ix3 b n d) = P (ix3 b n d) * Ideal.exp (A (ix2 d n) * Ideal.ofBits .f32 0x44000000#32) + Q (ix3 b n d) := by
  pointwise [k0_pay65]

/-- The state that enters chunk `c`: the one from zero, and the state taken in, decayed over the chunks before. -/
theorem enter_at (A : Vec Ideal S512x16 .f32) (P : Vec Ideal S8x16x16x512 .f32) (Q : Vec Ideal S8x16x512 .f32) (b : Fin 8) (c n : Fin 16) (d : Fin 512) :
    k0_pay67 (k0_pay66 A P Q) (ix4 b c n d)
      = P (ix4 b c n d) + Ideal.exp (A (ix2 d n) * (((c.val : ℝ) : EReal) * Ideal.ofBits .f32 0x42000000#32)) * Q (ix3 b n d) := by
  have h : (FloatOps.sitofp FTy.f32 (BitVec.ofNat 32 c.val) : Ideal .f32) = ((c.val : ℝ) : EReal) := by
    show ((((BitVec.ofNat 32 c.val).toInt : ℤ) : ℝ) : EReal) = _
    have e : (BitVec.ofNat 32 c.val).toInt = (c.val : ℤ) := by
      revert c; decide
    rw [e]; norm_cast
  pointwise [k0_pay67, k0_pay66]
  rw [h]

/-- One step of the correction: a decay. -/
theorem correct_at (D : FVec Ideal S16x512 .f32) (M : Vec Ideal S8x16x16x512 .f32) (b : Fin 8) (c n : Fin 16) (d : Fin 512) :
    k0_pay69 D M (ix4 b c n d) = M (ix4 b c n d) * D (ix2 n d) := by
  pointwise [k0_pay69, k0_pay68]

/-- The corrected output: the own output, and the sum of the decayed corrections, each weighted. -/
theorem out_at (D : FVec Ideal S16x512 .f32) (M : Vec Ideal S8x16x16x512 .f32) (C : Vec Ideal S8x1x16x16 .f32) (Y : Vec Ideal S8x1x16x512 .f32)
    (b : Fin 8) (c : Fin 16) (d : Fin 512) :
    k0_pay70 D M C Y (ix4 b (0 : Fin 1) c d)
      = Y (ix4 b (0 : Fin 1) c d) + ∑ n : Fin 16, M (ix4 b c n d) * D (ix2 n d) * C (ix4 b (0 : Fin 1) c n) := by
  pointwise [k0_pay70, k0_pay68]

end Cert.KernelIdeal.Scan

end
-- ==== Proof.Recur.lean ====
/-
  THE RECURRENCE OVER THE REALS. One lane and one state of the scan obey `h ↦ h * e + u t`. This file holds
  that recurrence, the law that cuts a run into two shorter ones, and the output that the reference states.
-/
module

public import Mathlib.Analysis.SpecialFunctions.Exp
public import Mathlib.Data.EReal.Operations

@[expose] public section

noncomputable section

namespace Cert.Proof

/-- The state after `k` steps from zero, when the first step is at time `s`. -/
def loc (e : ℝ) (u : ℕ → ℝ) (s : ℕ) : ℕ → ℝ
  | 0 => 0
  | k + 1 => loc e u s k * e + u (s + k)

/-- A run of `j + k` steps is the run of the first `j`, decayed over `k` steps, and the run of the last `k`. -/
theorem loc_split (e : ℝ) (u : ℕ → ℝ) (s j k : ℕ) : loc e u s (j + k) = loc e u s j * e ^ k + loc e u (s + j) k := by
  induction k with
  | zero => simp [loc]
  | succ k ih =>
    rw [← Nat.add_assoc]
    simp only [loc, ih, pow_succ, Nat.add_assoc]
    ring

/-- A sum of real numbers is a real number. -/
theorem sum_real (f : Fin 16 → ℝ) : ∑ n : Fin 16, ((f n : ℝ) : EReal) = ((∑ n : Fin 16, f n : ℝ) : EReal) := by
  induction (Finset.univ : Finset (Fin 16)) using Finset.induction_on with
  | empty => simp
  | insert j t hj ih => rw [Finset.sum_insert hj, Finset.sum_insert hj, ih, EReal.coe_add]

/- The sequence `X`, the decays `E` over one step, the input weights `B` and the output weights `C`. -/
variable (X : Fin 8 → ℕ → Fin 512 → ℝ) (E : Fin 512 → Fin 16 → ℝ) (B C : Fin 8 → ℕ → Fin 16 → ℝ)

/-- What drives state `n` of lane `d` in batch row `b` at time `t`. -/
def drive (b : Fin 8) (n : Fin 16) (d : Fin 512) (t : ℕ) : ℝ := X b t d * B b t n

/-- The state `n` of lane `d` in batch row `b` after `k` steps from zero, the first at time `s`. -/
def st (b : Fin 8) (n : Fin 16) (d : Fin 512) (s k : ℕ) : ℝ := loc (E d n) (drive X B b n d) s k

/-- One step of the state. -/
theorem st_succ (b : Fin 8) (n : Fin 16) (d : Fin 512) (s k : ℕ) :
    st X E B b n d s (k + 1) = st X E B b n d s k * E d n + X b (s + k) d * B b (s + k) n := rfl

/-- The state after `j + k` steps from the state after `j`. -/
theorem st_split (b : Fin 8) (n : Fin 16) (d : Fin 512) (s j k : ℕ) :
    st X E B b n d s (j + k) = st X E B b n d s j * E d n ^ k + st X E B b n d (s + j) k := loc_split ..

/-- The output of lane `d` in batch row `b` at time `t`: the states after step `t`, weighted and summed. -/
def out (b : Fin 8) (t : ℕ) (d : Fin 512) : ℝ := ∑ n : Fin 16, st X E B b n d 0 (t + 1) * C b t n

end Cert.Proof

end
-- ==== Proof.Ideal.Closed.lean ====
/-
  THE KERNEL'S OUTPUT IN CLOSED FORM, for arguments that are real numbers: a device's block holds the output
  of the plain recurrence over the whole sequence, at the device's own time steps.
-/
module

public import proofs.«01_k».proof.Proof.Ideal.Read
public import proofs.«01_k».proof.Proof.Recur

@[expose] public section

set_option maxRecDepth 16384

noncomputable section

namespace Cert.KernelIdeal.Scan

open Cert.KernelIdeal Cert.KernelIdeal.Gen
open Idealize.ShloMosaic
open Cert.Proof

/-- The literal 32. -/
theorem lit32 : Ideal.ofBits .f32 0x42000000#32 = ((32 : ℝ) : EReal) := by
  simp [Ideal.ofBits, Ideal.ieee, -EReal.coe_mul]; norm_num

/-- The literal 512. -/
theorem lit512 : Ideal.ofBits .f32 0x44000000#32 = ((512 : ℝ) : EReal) := by
  simp [Ideal.ofBits, Ideal.ieee, -EReal.coe_mul]; norm_num

variable (X : Fin 8 → ℕ → Fin 512 → ℝ) (E : Fin 512 → Fin 16 → ℝ) (B C : Fin 8 → ℕ → Fin 16 → ℝ)

/-- A block of 512 lanes holds the time steps of `X` from time `s` on. -/
def IsX (s : ℕ) (x : Vec Ideal S8x512x512 .f32) : Prop :=
  ∀ (b : Fin 8) (t d : Fin 512), x (ix3 b t d) = ((X b (s + t.val) d : ℝ) : EReal)

/-- The rates are those of the decays `E`: the exponential of `k` times a rate is the decay's `k`-th power. -/
def IsA (a : Vec Ideal S512x16 .f32) : Prop :=
  ∀ (d : Fin 512) (n : Fin 16) (k : ℕ), Ideal.exp (a (ix2 d n) * (((k : ℝ)) : EReal)) = ((E d n ^ k : ℝ) : EReal)

/-- A block of 16 lanes holds the time steps of `B` from time `s` on. -/
def IsB (s : ℕ) (y : Vec Ideal S8x512x16 .f32) : Prop :=
  ∀ (b : Fin 8) (t : Fin 512) (n : Fin 16), y (ix3 b t n) = ((B b (s + t.val) n : ℝ) : EReal)

section Local

variable {X E B C} {s : ℕ} {x : Vec Ideal S8x512x512 .f32} {a : Vec Ideal S512x16 .f32} {y z : Vec Ideal S8x512x16 .f32}

/-- Step `k` of chunk `c`, 512 lanes. -/
theorem row_x (hx : IsX X s x) (b : Fin 8) (c : Fin 16) (d : Fin 512) {k : ℕ} (hk : k < 32) :
    rowX k (chX x) (ix4 b (0 : Fin 1) c d) = ((X b (s + 32 * c.val + k) d : ℝ) : EReal) := by
  refine (hx b ⟨32 * c.val + k % 32, by omega⟩ d).trans ?_
  rw [show s + (32 * c.val + k % 32) = s + 32 * c.val + k by rw [Nat.mod_eq_of_lt hk, ← Nat.add_assoc]]

/-- Step `k` of chunk `c`, 16 lanes. -/
theorem row_b (hy : IsB B s y) (b : Fin 8) (c n : Fin 16) {k : ℕ} (hk : k < 32) :
    rowB k (chB y) (ix4 b (0 : Fin 1) c n) = ((B b (s + 32 * c.val + k) n : ℝ) : EReal) := by
  refine (hy b ⟨32 * c.val + k % 32, by omega⟩ n).trans ?_
  rw [show s + (32 * c.val + k % 32) = s + 32 * c.val + k by rw [Nat.mod_eq_of_lt hk, ← Nat.add_assoc]]

/-- The decay over one step. -/
theorem decay1_real (ha : IsA E a) (n : Fin 16) (d : Fin 512) : k0_pay1 a (ix2 n d) = ((E d n : ℝ) : EReal) := by
  have h := ha d n 1
  rw [Nat.cast_one, EReal.coe_one, mul_one, pow_one] at h
  rw [decay1_at, h]

/-- The decay over one chunk. -/
theorem decay32_real (ha : IsA E a) (n : Fin 16) (d : Fin 512) : k0_pay2 a (ix2 n d) = ((E d n ^ 32 : ℝ) : EReal) := by
  have h := ha d n 32
  rw [show ((32 : ℕ) : ℝ) = 32 from Nat.cast_ofNat] at h
  rw [decay32_at, lit32, h]

/-- The state of chunk `c` after `k` steps from zero. -/
theorem hst_real (hx : IsX X s x) (ha : IsA E a) (hy : IsB B s y) (b : Fin 8) (c n : Fin 16) (d : Fin 512) :
    ∀ k ≤ 32, hst x a y k (ix4 b c n d) = ((st X E B b n d (s + 32 * c.val) k : ℝ) : EReal)
  | 0, _ => by rw [hst, zero_hst]; rfl
  | k + 1, hk => by
    rw [hst, step_at', hst_real hx ha hy b c n d k (by omega), decay1_real ha, row_x hx b c d (by omega), row_b hy b c n (by omega),
      st_succ]
    push_cast; rfl

/-- The chunk's own output. -/
theorem yown_real (hx : IsX X s x) (ha : IsA E a) (hy : IsB B s y) (hz : IsB C s z) (b : Fin 8) (k : Fin 32) (c : Fin 16) (d : Fin 512) :
    yown x a y z (ix4 b k c d)
      = ((∑ n : Fin 16, st X E B b n d (s + 32 * c.val) (k.val + 1) * C b (s + 32 * c.val + k.val) n : ℝ) : EReal) := by
  have hk := k.isLt
  show k0_pay59 (k0_pay1 a) (rowX k.val (chX x)) (rowB k.val (chB y)) (rowB k.val (chB z)) (hst x a y k.val) (ix4 b (0 : Fin 1) c d) = _
  rw [own_at, ← sum_real]
  refine Finset.sum_congr rfl fun n _ => ?_
  rw [hst_real hx ha hy b c n d k.val (by omega), decay1_real ha, row_x hx b c d hk, row_b hy b c n hk, row_b hz b c n hk, st_succ]
  push_cast; rfl

/-- The state that enters chunk `k`, the block started from zero. -/
theorem pst_real (hx : IsX X s x) (ha : IsA E a) (hy : IsB B s y) (b : Fin 8) (n : Fin 16) (d : Fin 512) :
    ∀ k ≤ 16, pst x a y k (ix3 b n d) = ((st X E B b n d s (32 * k) : ℝ) : EReal)
  | 0, _ => by rw [pst, zero_pst]; rfl
  | k + 1, hk => by
    have e : rowC k (hst x a y 32) (ix4 b (0 : Fin 1) n d) = ((st X E B b n d (s + 32 * k) 32 : ℝ) : EReal) := by
      refine (hst_real hx ha hy b ⟨k % 16, by omega⟩ n d 32 le_rfl).trans ?_
      rw [show (⟨k % 16, by omega⟩ : Fin 16).val = k from Nat.mod_eq_of_lt (by omega)]
    rw [pst, chain_at, pst_real hx ha hy b n d k (by omega), decay32_real ha, e, Nat.mul_succ, st_split]
    push_cast; rfl

/-- The state at the block's end, the block started from zero. -/
theorem fin_real (hx : IsX X s x) (ha : IsA E a) (hy : IsB B s y) (b : Fin 8) (n : Fin 16) (d : Fin 512) :
    fin x a y (ix3 b n d) = ((st X E B b n d s 512 : ℝ) : EReal) := by
  rw [fin, fin_at, pst_real hx ha hy b n d 16 le_rfl]

/-- A carried state holds the state of the whole sequence before time `s`. -/
def IsCarry (X : Fin 8 → ℕ → Fin 512 → ℝ) (E : Fin 512 → Fin 16 → ℝ) (B : Fin 8 → ℕ → Fin 16 → ℝ) (s : ℕ) (q : Vec Ideal S8x16x512 .f32) : Prop :=
  ∀ (b : Fin 8) (n : Fin 16) (d : Fin 512), q (ix3 b n d) = ((st X E B b n d 0 s : ℝ) : EReal)

variable {q : Vec Ideal S8x16x512 .f32}

/-- What the device sends on is the state of the whole sequence after its block. -/
theorem sent_real (hx : IsX X s x) (ha : IsA E a) (hy : IsB B s y) (hq : IsCarry X E B s q) : IsCarry X E B (s + 512) (sent x a y q) := by
  intro b n d
  have h := ha d n 512
  rw [show ((512 : ℕ) : ℝ) = 512 from Nat.cast_ofNat] at h
  rw [sent, sent_at, hq, lit512, h, fin_real hx ha hy, st_split X E B b n d 0 s 512, Nat.zero_add]
  push_cast; rfl

/-- The correction of chunk `c` after `k` steps: the state of the whole sequence before the chunk, decayed. -/
theorem mst_real (hx : IsX X s x) (ha : IsA E a) (hy : IsB B s y) (hq : IsCarry X E B s q) (b : Fin 8) (c n : Fin 16) (d : Fin 512) :
    ∀ k, mst x a y q k (ix4 b c n d) = ((st X E B b n d 0 (s + 32 * c.val) * E d n ^ k : ℝ) : EReal)
  | 0 => by
    have h := ha d n (c.val * 32)
    rw [show (((c.val * 32 : ℕ)) : ℝ) = (c.val : ℝ) * 32 by push_cast; rfl, EReal.coe_mul, Nat.mul_comm] at h
    have e : pall x a y (ix4 b c n d) = ((st X E B b n d s (32 * c.val) : ℝ) : EReal) :=
      (slab_at (pst x a y c.val) b n d).trans (pst_real hx ha hy b n d c.val (by omega))
    rw [mst, enter_at, e, lit32, h, hq, st_split X E B b n d 0 s (32 * c.val),
      Nat.zero_add, ← EReal.coe_mul, ← EReal.coe_add]
    congr 1; ring
  | k + 1 => by
    rw [mst, correct_at, mst_real hx ha hy hq b c n d k, decay1_real ha, ← EReal.coe_mul]
    congr 1; ring

/-- The device's output at its time step `t` is the output of the whole sequence at time `s + t`. -/
theorem outv_real (hx : IsX X s x) (ha : IsA E a) (hy : IsB B s y) (hz : IsB C s z) (hq : IsCarry X E B s q) (b : Fin 8) (t d : Fin 512) :
    outv x a y z q (ix3 b t d) = ((out X E B C b (s + t.val) d : ℝ) : EReal) := by
  have ht := t.isLt
  obtain ⟨k, hk⟩ : ∃ k : Fin 32, k.val = t.val % 32 := ⟨⟨t.val % 32, Nat.mod_lt _ (by decide)⟩, rfl⟩
  obtain ⟨c, hc⟩ : ∃ c : Fin 16, c.val = t.val / 32 := ⟨⟨t.val / 32, by omega⟩, rfl⟩
  have e : outv x a y z q (ix3 b t d)
      = k0_pay70 (k0_pay1 a) (mst x a y q k.val) (rowB k.val (chB z)) (rowX k.val (yown x a y z)) (ix4 b (0 : Fin 1) c d) := by
    rw [hk, show c = ⟨t.val / 32, by omega⟩ from Fin.ext hc]; rfl
  have ey : rowX k.val (yown x a y z) (ix4 b (0 : Fin 1) c d) = yown x a y z (ix4 b k c d) := by
    show yown x a y z (ix4 b (⟨k.val % 32, _⟩ : Fin 32) c d) = _
    congr 2
    exact Fin.ext (Nat.mod_eq_of_lt k.isLt)
  rw [e, out_at, ey, yown_real hx ha hy hz]
  have hs : ∀ n : Fin 16, mst x a y q k.val (ix4 b c n d) * k0_pay1 a (ix2 n d) * rowB k.val (chB z) (ix4 b (0 : Fin 1) c n)
      = ((st X E B b n d 0 (s + 32 * c.val) * E d n ^ (k.val + 1) * C b (s + 32 * c.val + k.val) n : ℝ) : EReal) := by
    intro n
    rw [mst_real hx ha hy hq, decay1_real ha, row_b hz b c n k.isLt, ← EReal.coe_mul, ← EReal.coe_mul]
    congr 1; ring
  rw [Finset.sum_congr rfl fun n _ => hs n, sum_real, ← EReal.coe_add, ← Finset.sum_add_distrib]
  congr 1
  have htime : s + t.val = s + 32 * c.val + k.val := by omega
  rw [out, htime]
  refine Finset.sum_congr rfl fun n _ => ?_
  rw [Nat.add_assoc (s + 32 * c.val), st_split X E B b n d 0 (s + 32 * c.val) (k.val + 1), Nat.zero_add]
  ring

end Local

/-- The state that enters device `q`'s block is the state of the whole sequence before it. -/
theorem carry_real {x : Fin 8 → Vec Ideal S8x512x512 .f32} {a : Fin 8 → Vec Ideal S512x16 .f32} {y : Fin 8 → Vec Ideal S8x512x16 .f32}
    (hx : ∀ q : Fin 8, IsX X (512 * q.val) (x q)) (ha : ∀ q, IsA E (a q)) (hy : ∀ q : Fin 8, IsB B (512 * q.val) (y q)) :
    ∀ k ≤ 8, IsCarry X E B (512 * k) (carryN x a y k)
  | 0, _ => fun b n d => by rw [carryN, zero_carry]; rfl
  | k + 1, hk => by
    have e : (⟨k % 8, Nat.mod_lt _ (by decide)⟩ : Fin 8).val = k := Nat.mod_eq_of_lt (by omega)
    have h1 := hx ⟨k % 8, Nat.mod_lt _ (by decide)⟩
    have h2 := hy ⟨k % 8, Nat.mod_lt _ (by decide)⟩
    rw [e] at h1 h2
    exact sent_real h1 (ha _) h2 (carry_real hx ha hy k (by omega))

end Cert.KernelIdeal.Scan

end
-- ==== Proof.Ref.Read.lean ====
/-
  ONE STEP OF THE REFERENCE AT AN INDEX, over the extended reals: the new states and the new output row.
-/
module

public import proofs.«01_k».proof.Proof.Gen.ReferenceIdeal.Run
public import Idealize.ShloMosaic.Lib.Pointwise

@[expose] public section

set_option maxRecDepth 16384

noncomputable section

namespace Cert.ReferenceIdeal.Scan

open Cert.ReferenceIdeal Cert.ReferenceIdeal.Gen Cert.ReferenceIdeal.Value
open Idealize.ShloMosaic Idealize.ShloMosaic.TcCoe Idealize.ShloMosaic.Tactic
open Idealize.ShloMosaic.StableHlo

/-! ## A row of time steps, read and written -/

section Row

variable {α : Type} {L : ℕ} {start : Fin 3 → ℤ} {k : ℕ}

/-- The clamped start of a window of one row at row `k` is the row's own place. -/
theorem start_at (hk : k < 4096) (h0 : start 0 = 0) (h1 : start 1 = k) (h2 : start 2 = 0) :
    Host.clampedStart ⟨3, ![8, 4096, L]⟩ ⟨3, ![8, 1, L]⟩ rfl start = ![0, k, 0] := by
  funext a
  match a with
  | ⟨0, _⟩ => exact Host.clampedStart_of_le (s := ⟨3, ![8, 4096, L]⟩) (t := ⟨3, ![8, 1, L]⟩) rfl start 0 0 h0 (by show 0 + 8 ≤ 8; omega)
  | ⟨1, _⟩ => exact Host.clampedStart_of_le (s := ⟨3, ![8, 4096, L]⟩) (t := ⟨3, ![8, 1, L]⟩) rfl start 1 k h1 (by show k + 1 ≤ 4096; omega)
  | ⟨2, _⟩ => exact Host.clampedStart_of_le (s := ⟨3, ![8, 4096, L]⟩) (t := ⟨3, ![8, 1, L]⟩) rfl start 2 0 h2 (by show 0 + L ≤ L; omega)

/-- A window of one row read at row `k`. -/
theorem slice_at (x : (⟨3, ![8, 4096, L]⟩ : Shape).Idx → α) (h : (⟨3, ![8, 4096, L]⟩ : Shape).Slices (fun _ => 0) ⟨3, ![8, 1, L]⟩)
    (hk : k < 4096) (h0 : start 0 = 0) (h1 : start 1 = k) (h2 : start 2 = 0) (b : Fin 8) (d : Fin L) :
    Host.dynamicSlice ⟨3, ![8, 1, L]⟩ x start h (ix3 b (0 : Fin 1) d) = x (ix3 b (⟨k, hk⟩ : Fin 4096) d) := by
  have e := start_at (L := L) hk h0 h1 h2
  refine congrArg x (funext fun a => Fin.ext ?_)
  show Host.clampedStart ⟨3, ![8, 4096, L]⟩ ⟨3, ![8, 1, L]⟩ rfl start a + _ = _
  rw [e]
  match a with
  | ⟨0, _⟩ => exact Nat.zero_add b.val
  | ⟨1, _⟩ => exact Nat.add_zero k
  | ⟨2, _⟩ => exact Nat.zero_add d.val

/-- A window of one row written at row `k`: the new row there, the old rows elsewhere. -/
theorem update_at (y : (⟨3, ![8, 4096, L]⟩ : Shape).Idx → α) (u : (⟨3, ![8, 1, L]⟩ : Shape).Idx → α)
    (h : (⟨3, ![8, 4096, L]⟩ : Shape).Slices (fun _ => 0) ⟨3, ![8, 1, L]⟩)
    (hk : k < 4096) (h0 : start 0 = 0) (h1 : start 1 = k) (h2 : start 2 = 0) (b : Fin 8) (t : Fin 4096) (d : Fin L) :
    Host.dynamicUpdateSlice y u start h (ix3 b t d) = if t.val = k then u (ix3 b (0 : Fin 1) d) else y (ix3 b t d) := by
  have e := start_at (L := L) hk h0 h1 h2
  have ha : ∀ a, Host.clampedStart ⟨3, ![8, 4096, L]⟩ ⟨3, ![8, 1, L]⟩ rfl start a = (![0, k, 0] : Fin 3 → ℕ) a := fun a => congrFun e a
  rw [Host.dynamicUpdateSlice_apply]
  by_cases ht : t.val = k
  · have hin : ∀ a : Fin 3, Host.clampedStart ⟨3, ![8, 4096, L]⟩ ⟨3, ![8, 1, L]⟩ rfl start a ≤ (ix3 b t d a).val
        ∧ (ix3 b t d a).val < Host.clampedStart ⟨3, ![8, 4096, L]⟩ ⟨3, ![8, 1, L]⟩ rfl start a + (![8, 1, L] : Fin 3 → ℕ) a := by
      intro a
      rw [ha]
      match a with
      | ⟨0, _⟩ => show 0 ≤ b.val ∧ b.val < 0 + 8; omega
      | ⟨1, _⟩ => show k ≤ t.val ∧ t.val < k + 1; omega
      | ⟨2, _⟩ => show 0 ≤ d.val ∧ d.val < 0 + L; omega
    rw [if_pos ht]
    refine (dif_pos hin).trans (congrArg u (funext fun a => Fin.ext ?_))
    show (ix3 b t d a).val - Host.clampedStart ⟨3, ![8, 4096, L]⟩ ⟨3, ![8, 1, L]⟩ rfl start a = _
    rw [ha]
    match a with
    | ⟨0, _⟩ => exact Nat.sub_zero b.val
    | ⟨1, _⟩ => show t.val - k = 0; omega
    | ⟨2, _⟩ => exact Nat.sub_zero d.val
  · rw [if_neg ht]
    refine dif_neg fun hin => ht ?_
    have h' := hin (1 : Fin 3)
    have e1 : Host.clampedStart ⟨3, ![8, 4096, L]⟩ ⟨3, ![8, 1, L]⟩ rfl start 1 = k := ha 1
    have h2 : Host.clampedStart ⟨3, ![8, 4096, L]⟩ ⟨3, ![8, 1, L]⟩ rfl start 1 ≤ t.val
      ∧ t.val < Host.clampedStart ⟨3, ![8, 4096, L]⟩ ⟨3, ![8, 1, L]⟩ rfl start 1 + 1 := h'
    rw [e1] at h2
    omega

end Row

/-! ## The row index of a step -/

/-- The starts of a step's windows, as the program computes them from the counter. -/
abbrev starts (i : IVec S_ 32) : Fin 3 → ℤ := fun k =>
  (((![constantI S_ 32 0#32, select (cmpi .slt i (constantI S_ 32 0#32)) (addi (id i) (constantI S_ 32 4096#32)) i,
    constantI S_ 32 0#32] : Fin 3 → IVec S_ 32)) k (Shape.Idx.first h_S_)).toInt

/-- At step `k` the row starts at `k`. -/
theorem starts_one {k : ℕ} (hk : k < 4096) {i : IVec S_ 32} (hi : i = fun _ => BitVec.ofNat 32 k) : starts i 1 = (k : ℤ) := by
  subst hi
  have e : (BitVec.ofNat 32 k).toInt = (k : ℤ) := by
    rw [BitVec.toInt_eq_toNat_cond, BitVec.toNat_ofNat, Nat.mod_eq_of_lt (by omega), if_pos (by omega)]
  refine Eq.trans ?_ e
  refine congrArg BitVec.toInt ?_
  show (if (BitVec.ofBool ((BitVec.ofNat 32 k).slt 0#32)) = 1 then _ else _) = _
  have hn : (BitVec.ofNat 32 k).slt 0#32 = false := by
    simp only [BitVec.slt, e, BitVec.toInt_zero, decide_eq_false_iff_not]; omega
  rw [hn]; rfl

/-! ## One step -/

/-- The loop's copy of the sequence. -/
def vX (V : Valuation τ sig (Elt Ideal)) : FVec Ideal S8x4096x512 .f32 := V (Proc.devRef .tc main_v4_0)
/-- The loop's copy of the input weights. -/
def vB (V : Valuation τ sig (Elt Ideal)) : FVec Ideal S8x4096x16 .f32 := V (Proc.devRef .tc main_v4_1)
/-- The loop's copy of the output weights. -/
def vC (V : Valuation τ sig (Elt Ideal)) : FVec Ideal S8x4096x16 .f32 := V (Proc.devRef .tc main_v4_2)
/-- The loop's copy of the decays. -/
def vD (V : Valuation τ sig (Elt Ideal)) : FVec Ideal S1x512x16 .f32 := V (Proc.devRef .tc main_v4_3)
/-- The loop's row counter. -/
def vI (V : Valuation τ sig (Elt Ideal)) : IVec S_ 32 := V (Proc.devRef .tc main_v4_5)
/-- The loop's states. -/
def vH (V : Valuation τ sig (Elt Ideal)) : FVec Ideal S8x512x16 .f32 := V (Proc.devRef .tc main_v4_6)
/-- The loop's output. -/
def vY (V : Valuation τ sig (Elt Ideal)) : FVec Ideal S8x4096x512 .f32 := V (Proc.devRef .tc main_v4_7)

/-- The new state, as a function of what it reads. -/
def newH (H : FVec Ideal S8x512x16 .f32) (D : FVec Ideal S1x512x16 .f32) (X : FVec Ideal S8x1x512 .f32) (B : FVec Ideal S8x1x16 .f32) :
    FVec Ideal S8x512x16 .f32 :=
  addf (mulf H (broadcastInDim S8x512x16 ![0, 1, 2] bcast_S1x512x16_S8x512x16_0_1_2 D))
    (mulf (broadcastInDim S8x512x16 ![0, 1, 2] bcast_S8x512x1_S8x512x16_0_1_2
        (broadcastInDim S8x512x1 ![0, 1] bcast_S8x512_S8x512x1_0_1 (shapeCast S8x512 X shapeCasts_S8x1x512_S8x512)))
      (broadcastInDim S8x512x16 ![0, 1, 2] bcast_S8x1x16_S8x512x16_0_1_2
        (broadcastInDim S8x1x16 ![0, 2] bcast_S8x16_S8x1x16_0_2 (shapeCast S8x16 B shapeCasts_S8x1x16_S8x16))))

/-- The new output row, as a function of what it reads. -/
def newY (H : FVec Ideal S8x512x16 .f32) (C : FVec Ideal S8x1x16 .f32) : FVec Ideal S8x1x512 .f32 :=
  broadcastInDim S8x1x512 ![0, 2] bcast_S8x512_S8x1x512_0_2
    (Host.reduceAdd (mulf H (broadcastInDim S8x512x16 ![0, 1, 2] bcast_S8x1x16_S8x512x16_0_1_2
      (broadcastInDim S8x1x16 ![0, 2] bcast_S8x16_S8x1x16_0_2 (shapeCast S8x16 C shapeCasts_S8x1x16_S8x16))))
      (constant S_ .f32 0x00000000#32) reducesTo_S8x512x16_S8x512_d2 h_S_)

/-- The new state at an index. -/
theorem newH_at (H : FVec Ideal S8x512x16 .f32) (D : FVec Ideal S1x512x16 .f32) (X : FVec Ideal S8x1x512 .f32) (B : FVec Ideal S8x1x16 .f32)
    (b : Fin 8) (d : Fin 512) (n : Fin 16) :
    newH H D X B (ix3 b d n) = H (ix3 b d n) * D (ix3 (0 : Fin 1) d n) + X (ix3 b (0 : Fin 1) d) * B (ix3 b (0 : Fin 1) n) := by
  pointwise [newH]

/-- The new output row at an index. -/
theorem newY_at (H : FVec Ideal S8x512x16 .f32) (C : FVec Ideal S8x1x16 .f32) (b : Fin 8) (d : Fin 512) :
    newY H C (ix3 b (0 : Fin 1) d) = ∑ n : Fin 16, H (ix3 b d n) * C (ix3 b (0 : Fin 1) n) := by
  pointwise [newY]

section Step

variable (V : Valuation τ sig (Elt Ideal))

/-- A step keeps the sequence. -/
theorem vX_step : vX (STEP V) = vX V := STEP_main_v4_0 V
/-- A step keeps the input weights. -/
theorem vB_step : vB (STEP V) = vB V := STEP_main_v4_1 V
/-- A step keeps the output weights. -/
theorem vC_step : vC (STEP V) = vC V := STEP_main_v4_2 V
/-- A step keeps the decays. -/
theorem vD_step : vD (STEP V) = vD V := STEP_main_v4_3 V
/-- A step counts on by one. -/
theorem vI_step : vI (STEP V) = addi (vI V) (constantI S_ 32 1#32) := STEP_main_v4_5 V

/-- The states after a step. -/
theorem vH_step : vH (STEP V) = newH (vH V) (vD V)
    (Host.dynamicSlice S8x1x512 (vX V) (starts (vI V)) sliceFits_S8x4096x512_S8x1x512)
    (Host.dynamicSlice S8x1x16 (vB V) (starts (vI V)) sliceFits_S8x4096x16_S8x1x16) := STEP_main_v4_6 V

/-- The output after a step. -/
theorem vY_step : vY (STEP V) = Host.dynamicUpdateSlice (vY V)
    (newY (vH (STEP V)) (Host.dynamicSlice S8x1x16 (vC V) (starts (vI V)) sliceFits_S8x4096x16_S8x1x16))
    (starts (vI V)) updateFits_S8x4096x512_S8x1x512 := by
  rw [vH_step]; exact STEP_main_v4_7 V

variable {k : ℕ} (hk : k < 4096) (hi : vI V = fun _ => BitVec.ofNat 32 k)

include hi in
/-- The states after step `k`, at an index. -/
theorem vH_step_at (b : Fin 8) (d : Fin 512) (n : Fin 16) :
    vH (STEP V) (ix3 b d n) = vH V (ix3 b d n) * vD V (ix3 (0 : Fin 1) d n)
      + vX V (ix3 b (⟨k, hk⟩ : Fin 4096) d) * vB V (ix3 b (⟨k, hk⟩ : Fin 4096) n) := by
  rw [vH_step, newH_at]
  congr 1
  exact congrArg₂ (· * ·) (slice_at _ _ hk rfl (starts_one hk hi) rfl b d) (slice_at _ _ hk rfl (starts_one hk hi) rfl b n)

include hk hi in
/-- The output after step `k`, at an index. -/
theorem vY_step_at (b : Fin 8) (t : Fin 4096) (d : Fin 512) :
    vY (STEP V) (ix3 b t d)
      = if t.val = k then ∑ n : Fin 16, vH (STEP V) (ix3 b d n) * vC V (ix3 b (⟨k, hk⟩ : Fin 4096) n) else vY V (ix3 b t d) := by
  rw [vY_step]
  refine (update_at _ _ _ hk rfl (starts_one hk hi) rfl b t d).trans ?_
  rw [newY_at]
  congr 1
  exact Finset.sum_congr rfl fun n _ => congrArg (vH (STEP V) (ix3 b d n) * ·) (slice_at _ _ hk rfl (starts_one hk hi) rfl b n)

end Step

/-! ## The loop's entry -/

section Entry

variable (m : (ℓ : Loc nD τ sig) → Buf (Elt Ideal) ℓ) (c : Dev nD)

/-- What the loop starts from. -/
def entry : Valuation τ sig (Elt Ideal) := entryContents preI m c

/-- The loop starts with the sequence argument. -/
theorem entry_X : vX (entry m c) = m ((c : Thread nD τ).loc main_arg0) := by
  unfold vX entry
  simp only [entryContents, afterL_cons, afterL_nil]
  after_reads_simp
  rfl

/-- The loop starts with the input weights. -/
theorem entry_B : vB (entry m c) = m ((c : Thread nD τ).loc main_arg2) := by
  unfold vB entry
  simp only [entryContents, afterL_cons, afterL_nil]
  after_reads_simp
  rfl

/-- The loop starts with the output weights. -/
theorem entry_C : vC (entry m c) = m ((c : Thread nD τ).loc main_arg3) := by
  unfold vC entry
  simp only [entryContents, afterL_cons, afterL_nil]
  after_reads_simp
  rfl

/-- The decays are the exponentials of the rates. -/
theorem entry_D : vD (entry m c) = broadcastInDim S1x512x16 ![1, 2] bcast_S512x16_S1x512x16_1_2
    (Host.exp (m ((c : Thread nD τ).loc main_arg1) : FVec Ideal S512x16 .f32)) := by
  unfold vD entry
  simp only [entryContents, afterL_cons, afterL_nil]
  after_reads_simp
  rfl

/-- The row counter starts from zero. -/
theorem entry_I : vI (entry m c) = fun _ => 0#32 := by
  unfold vI entry
  simp only [entryContents, afterL_cons, afterL_nil]
  after_reads_simp
  rfl

/-- The states start from zero. -/
theorem entry_H : vH (entry m c) = broadcastInDim S8x512x16 ![] bcast_S_S8x512x16 (constant S_ .f32 0x00000000#32) := by
  unfold vH entry
  simp only [entryContents, afterL_cons, afterL_nil]
  after_reads_simp
  rfl

/-- The decays at an index. -/
theorem entry_D_at (d : Fin 512) (n : Fin 16) :
    vD (entry m c) (ix3 (0 : Fin 1) d n) = Ideal.exp ((m ((c : Thread nD τ).loc main_arg1) : Vec Ideal S512x16 .f32) (ix2 d n)) := by
  rw [entry_D]
  generalize (m ((c : Thread nD τ).loc main_arg1)) = a
  pointwise []

/-- The states at the entry, at an index. -/
theorem entry_H_at (b : Fin 8) (d : Fin 512) (n : Fin 16) : vH (entry m c) (ix3 b d n) = 0 := by
  rw [entry_H]
  pointwise []

end Entry

end Cert.ReferenceIdeal.Scan

end
-- ==== Proof.Ref.Closed.lean ====
/-
  THE REFERENCE'S OUTPUT IN CLOSED FORM, for arguments that are real numbers.
-/
module

public import proofs.«01_k».proof.Proof.Ref.Read
public import proofs.«01_k».proof.Proof.Recur

@[expose] public section

set_option maxRecDepth 16384

noncomputable section

namespace Cert.ReferenceIdeal.Scan

open Cert.ReferenceIdeal Cert.ReferenceIdeal.Gen Cert.ReferenceIdeal.Value
open Idealize.ShloMosaic Idealize.ShloMosaic.TcCoe Idealize.ShloMosaic.StableHlo
open Cert.Proof

variable (X : Fin 8 → ℕ → Fin 512 → ℝ) (E : Fin 512 → Fin 16 → ℝ) (B C : Fin 8 → ℕ → Fin 16 → ℝ)

/-- The loop's buffers before step `k`: the arguments, the counter `k`, the states after `k` steps, and the
    outputs of the first `k` time steps. -/
structure Before (k : ℕ) (V : Valuation τ sig (Elt Ideal)) : Prop where
  x : ∀ (b : Fin 8) (t : Fin 4096) (d : Fin 512), vX V (ix3 b t d) = ((X b t.val d : ℝ) : EReal)
  b : ∀ (b : Fin 8) (t : Fin 4096) (n : Fin 16), vB V (ix3 b t n) = ((B b t.val n : ℝ) : EReal)
  c : ∀ (b : Fin 8) (t : Fin 4096) (n : Fin 16), vC V (ix3 b t n) = ((C b t.val n : ℝ) : EReal)
  d : ∀ (d : Fin 512) (n : Fin 16), vD V (ix3 (0 : Fin 1) d n) = ((E d n : ℝ) : EReal)
  i : vI V = fun _ => BitVec.ofNat 32 k
  h : ∀ (b : Fin 8) (d : Fin 512) (n : Fin 16), vH V (ix3 b d n) = ((st X E B b n d 0 k : ℝ) : EReal)
  y : ∀ (b : Fin 8) (t : Fin 4096) (d : Fin 512), t.val < k → vY V (ix3 b t d) = ((out X E B C b t.val d : ℝ) : EReal)

variable {X E B C}

/-- One step keeps the description of the buffers. -/
theorem Before.step {k : ℕ} {V : Valuation τ sig (Elt Ideal)} (v : Before X E B C k V) (hk : k < 4096) : Before X E B C (k + 1) (STEP V) := by
  have hh : ∀ (b : Fin 8) (d : Fin 512) (n : Fin 16), vH (STEP V) (ix3 b d n) = ((st X E B b n d 0 (k + 1) : ℝ) : EReal) := by
    intro b d n
    rw [vH_step_at V hk v.i, v.h, v.d, v.x, v.b, st_succ, Nat.zero_add]
    push_cast; rfl
  refine ⟨?_, ?_, ?_, ?_, ?_, hh, ?_⟩
  · rw [vX_step]; exact v.x
  · rw [vB_step]; exact v.b
  · rw [vC_step]; exact v.c
  · rw [vD_step]; exact v.d
  · rw [vI_step, v.i]
    funext j
    exact (BitVec.ofNat_add k 1).symm
  · intro b t d ht
    rw [vY_step_at V hk v.i]
    split
    · next e =>
      subst e
      rw [Finset.sum_congr rfl fun n _ => congrArg₂ (· * ·) (hh b d n) (v.c b t n), out, ← sum_real]
      exact Finset.sum_congr rfl fun n _ => (EReal.coe_mul ..).symm
    · next e => exact v.y b t d (by omega)

variable (m : (ℓ : Loc nD τ sig) → Buf (Elt Ideal) ℓ) (c : Dev nD)

/-- The arguments are those of `X`, `E`, `B` and `C`: the sequence and the weights entry by entry, and the decays as the
    exponentials of the rates. -/
structure Args (X : Fin 8 → ℕ → Fin 512 → ℝ) (E : Fin 512 → Fin 16 → ℝ) (B C : Fin 8 → ℕ → Fin 16 → ℝ) : Prop where
  x : ∀ (b : Fin 8) (t : Fin 4096) (d : Fin 512), (m ((c : Thread nD τ).loc main_arg0) : Vec Ideal S8x4096x512 .f32) (ix3 b t d) = ((X b t.val d : ℝ) : EReal)
  a : ∀ (d : Fin 512) (n : Fin 16), Ideal.exp ((m ((c : Thread nD τ).loc main_arg1) : Vec Ideal S512x16 .f32) (ix2 d n)) = ((E d n : ℝ) : EReal)
  b : ∀ (b : Fin 8) (t : Fin 4096) (n : Fin 16), (m ((c : Thread nD τ).loc main_arg2) : Vec Ideal S8x4096x16 .f32) (ix3 b t n) = ((B b t.val n : ℝ) : EReal)
  c : ∀ (b : Fin 8) (t : Fin 4096) (n : Fin 16), (m ((c : Thread nD τ).loc main_arg3) : Vec Ideal S8x4096x16 .f32) (ix3 b t n) = ((C b t.val n : ℝ) : EReal)

variable {m c}

/-- The description holds before every step. -/
theorem before (v : Args m c X E B C) : ∀ k ≤ 4096, Before X E B C k (STEP^[k] (entry m c))
  | 0, _ => by
    refine ⟨?_, ?_, ?_, ?_, entry_I m c, fun b d n => entry_H_at m c b d n, fun _ _ _ h => absurd h (Nat.not_lt_zero _)⟩
    · show ∀ b t d, vX (entry m c) _ = _
      rw [entry_X]; exact v.x
    · show ∀ b t d, vB (entry m c) _ = _
      rw [entry_B]; exact v.b
    · show ∀ b t d, vC (entry m c) _ = _
      rw [entry_C]; exact v.c
    · intro d n
      exact (entry_D_at m c d n).trans (v.a d n)
  | k + 1, hk => by
    rw [Function.iterate_succ_apply']
    exact (before v k (by omega)).step (by omega)

/-- The reference's result at an index. -/
theorem result_real (v : Args m c X E B C) (b : Fin 8) (t : Fin 4096) (d : Fin 512) :
    vY (STEP^[4096] (entry m c)) (ix3 b t d) = ((out X E B C b t.val d : ℝ) : EReal) :=
  (before v 4096 le_rfl).y b t d t.isLt

end Cert.ReferenceIdeal.Scan

end
-- ==== Proof.Algebraic.lean ====
/-
  THE VALUE CLAIM: over the extended reals, on real sequences and weights and on rates below plus
  infinity, the kernel's eight output blocks are the blocks
  of the reference's output.
-/
module

public import proofs.«01_k».proof.Defs
public import proofs.«01_k».proof.Proof.Finite
public import proofs.«01_k».proof.Proof.Ideal.Launch
public import proofs.«01_k».proof.Proof.Ideal.Closed
public import proofs.«01_k».proof.Proof.Ref.Closed

@[expose] public section

set_option maxRecDepth 16384

noncomputable section

namespace Cert.Proof

open Idealize.ShloMosaic Idealize.ShloMosaic.TcCoe Idealize.SL.Sem

/-- Time step `t` of device `c`'s block is time step `512 c + t` of the whole array. -/
theorem block_at {α : Type} {L : ℕ} (h : Layout.Tiles ⟨3, ![8, 512, L]⟩ ⟨3, ![8, 4096, L]⟩ 1 8) (c : Fin 8)
    (v : (⟨3, ![8, 4096, L]⟩ : Shape).Idx → α) (b : Fin 8) (t : Fin 512) (d : Fin L) :
    Layout.block ⟨3, ![8, 512, L]⟩ ⟨3, ![8, 4096, L]⟩ 1 8 c v h (ix3 b t d)
      = v (ix3 b (⟨512 * c.val + t.val, by omega⟩ : Fin 4096) d) := by
  rw [Layout.block_apply]
  refine congrArg v (funext fun a => Fin.ext ?_)
  rw [Layout.Tiles.idx_val]
  match a with
  | ⟨0, _⟩ => rfl
  | ⟨1, _⟩ => show c.val * 512 + t.val = 512 * c.val + t.val; omega
  | ⟨2, _⟩ => rfl

/-- Every time step of the whole array lies in one device's block. -/
theorem block_has {α : Type} {L : ℕ} (h : Layout.Tiles ⟨3, ![8, 512, L]⟩ ⟨3, ![8, 4096, L]⟩ 1 8)
    (v : (⟨3, ![8, 4096, L]⟩ : Shape).Idx → α) (b : Fin 8) (t : Fin 4096) (d : Fin L) :
    v (ix3 b t d) = Layout.block ⟨3, ![8, 512, L]⟩ ⟨3, ![8, 4096, L]⟩ 1 8 (⟨t.val / 512, by omega⟩ : Fin 8) v h
      (ix3 b (⟨t.val % 512, by omega⟩ : Fin 512) d) := by
  rw [block_at]
  congr 2
  exact Fin.ext (Nat.div_add_mod t.val 512).symm

/-- The real numbers in an array of three axes, read at any natural time. -/
def realAt {L : ℕ} (v : (⟨3, ![8, 4096, L]⟩ : Shape).Idx → EReal) (b : Fin 8) (t : ℕ) (d : Fin L) : ℝ :=
  (v (ix3 b (⟨t % 4096, by omega⟩ : Fin 4096) d)).toReal

/-- An array all of whose blocks hold real numbers is the array of its real numbers. -/
theorem realAt_eq {L : ℕ} (h : Layout.Tiles ⟨3, ![8, 512, L]⟩ ⟨3, ![8, 4096, L]⟩ 1 8) (v : (⟨3, ![8, 4096, L]⟩ : Shape).Idx → EReal)
    (hf : ∀ (c : Fin 8) i, (((Layout.block ⟨3, ![8, 512, L]⟩ ⟨3, ![8, 4096, L]⟩ 1 8 c v h i).toReal : ℝ) : EReal)
      = Layout.block ⟨3, ![8, 512, L]⟩ ⟨3, ![8, 4096, L]⟩ 1 8 c v h i) (b : Fin 8) (t : Fin 4096) (d : Fin L) :
    v (ix3 b t d) = ((realAt v b t.val d : ℝ) : EReal) := by
  have e : (⟨t.val % 4096, by omega⟩ : Fin 4096) = t := Fin.ext (Nat.mod_eq_of_lt t.isLt)
  rw [realAt, e, block_has h v b t d, hf]

/-- A block of such an array, at its own time steps. -/
theorem block_real {L : ℕ} (h : Layout.Tiles ⟨3, ![8, 512, L]⟩ ⟨3, ![8, 4096, L]⟩ 1 8) (v : (⟨3, ![8, 4096, L]⟩ : Shape).Idx → EReal)
    (hv : ∀ (b : Fin 8) (t : Fin 4096) (d : Fin L), v (ix3 b t d) = ((realAt v b t.val d : ℝ) : EReal))
    (c : Fin 8) (b : Fin 8) (t : Fin 512) (d : Fin L) :
    Layout.block ⟨3, ![8, 512, L]⟩ ⟨3, ![8, 4096, L]⟩ 1 8 c v h (ix3 b t d) = ((realAt v b (512 * c.val + t.val) d : ℝ) : EReal) := by
  rw [block_at, hv]

/-- The decay over one step at a rate. -/
def decay (a : EReal) : ℝ := (Ideal.exp a).toReal

/-- At a rate below plus infinity the exponential is the decay, a real number (zero at minus infinity). -/
theorem decay_exp {a : EReal} (h : a ≠ ⊤) : Ideal.exp a = ((decay a : ℝ) : EReal) := by
  induction a with
  | bot => rfl
  | coe r => rfl
  | top => exact absurd rfl h

/-- At a rate below plus infinity the decay over `k` steps is the `k`-th power of the decay over one. -/
theorem decay_pow {a : EReal} (h : a ≠ ⊤) (k : ℕ) : Ideal.exp (a * ((k : ℝ) : EReal)) = ((decay a ^ k : ℝ) : EReal) := by
  induction a with
  | bot =>
    have e0 : decay ⊥ = 0 := rfl
    rcases Nat.eq_zero_or_pos k with rfl | hk
    · rw [Nat.cast_zero, EReal.coe_zero, mul_zero, pow_zero, ← EReal.coe_zero, Ideal.exp_coe, Real.exp_zero]
    · rw [EReal.bot_mul_coe_of_pos (Nat.cast_pos.2 hk), e0, zero_pow hk.ne']; rfl
  | coe r =>
    have e1 : decay (r : EReal) = Real.exp r := rfl
    rw [← EReal.coe_mul, Ideal.exp_coe, e1, mul_comm, Real.exp_nat_mul]
  | top => exact absurd rfl h

open Cert.KernelIdeal.Scan Cert.ReferenceIdeal.Scan in
/-- The kernel computes what the reference computes. -/
theorem algebraic [Cert.Pre_bounded_KernelIdeal.Facts] : Cert.algebraic_KernelIdeal_ReferenceIdeal_pre_bounded_KernelIdeal := by
  intro m g m' g' hpre harg
  have hfin := fun c => real_of_bounded _ _ _ _ (hpre c)
  set x' : (⟨3, ![8, 4096, 512]⟩ : Shape).Idx → EReal := m' (((0 : Dev Cert.ReferenceIdeal.nD).tc : Thread Cert.ReferenceIdeal.nD Cert.ReferenceIdeal.τ).loc Cert.ReferenceIdeal.main_arg0) with hx'
  set a' : (⟨2, ![512, 16]⟩ : Shape).Idx → EReal := m' (((0 : Dev Cert.ReferenceIdeal.nD).tc : Thread Cert.ReferenceIdeal.nD Cert.ReferenceIdeal.τ).loc Cert.ReferenceIdeal.main_arg1) with ha'
  set b' : (⟨3, ![8, 4096, 16]⟩ : Shape).Idx → EReal := m' (((0 : Dev Cert.ReferenceIdeal.nD).tc : Thread Cert.ReferenceIdeal.nD Cert.ReferenceIdeal.τ).loc Cert.ReferenceIdeal.main_arg2) with hb'
  set c' : (⟨3, ![8, 4096, 16]⟩ : Shape).Idx → EReal := m' (((0 : Dev Cert.ReferenceIdeal.nD).tc : Thread Cert.ReferenceIdeal.nD Cert.ReferenceIdeal.τ).loc Cert.ReferenceIdeal.main_arg3) with hc'
  have ex : ∀ q : Fin 8, xb m q = Layout.block ⟨3, ![8, 512, 512]⟩ ⟨3, ![8, 4096, 512]⟩ 1 8 q x' := fun q => (harg q).1
  have ea : ∀ q : Fin 8, Ab m q = a' := fun q => (harg q).2.1
  have eb : ∀ q : Fin 8, Bb m q = Layout.block ⟨3, ![8, 512, 16]⟩ ⟨3, ![8, 4096, 16]⟩ 1 8 q b' := fun q => (harg q).2.2.1
  have ec : ∀ q : Fin 8, Cb m q = Layout.block ⟨3, ![8, 512, 16]⟩ ⟨3, ![8, 4096, 16]⟩ 1 8 q c' := fun q => (harg q).2.2.2
  have rx := realAt_eq (by decide) x' fun c i => by rw [← ex c]; exact (hfin c).1 i
  have rb := realAt_eq (by decide) b' fun c i => by rw [← eb c]; exact (hfin c).2.2.1 i
  have rc := realAt_eq (by decide) c' fun c i => by rw [← ec c]; exact (hfin c).2.2.2 i
  have ra : ∀ (d : Fin 512) (n : Fin 16), a' (ix2 d n) ≠ ⊤ := fun d n => by rw [← ea 0]; exact (hfin 0).2.1 (ix2 d n)
  -- the kernel's blocks
  have kx : ∀ q : Fin 8, IsX (realAt x') (512 * q.val) (xb m q) := fun q b t d => by rw [ex]; exact block_real _ x' rx q b t d
  have kb : ∀ q : Fin 8, IsB (realAt b') (512 * q.val) (Bb m q) := fun q b t d => by rw [eb]; exact block_real _ b' rb q b t d
  have kc : ∀ q : Fin 8, IsB (realAt c') (512 * q.val) (Cb m q) := fun q b t d => by rw [ec]; exact block_real _ c' rc q b t d
  have ka : ∀ q : Fin 8, IsA (fun d n => decay (a' (ix2 d n))) (Ab m q) := fun q d n k => by rw [ea]; exact decay_pow (ra d n) k
  -- the reference's arguments
  have ref : Args m' 0 (realAt x') (fun d n => decay (a' (ix2 d n))) (realAt b') (realAt c') := ⟨rx, fun d n => decay_exp (ra d n), rb, rc⟩
  refine ⟨vY (Cert.ReferenceIdeal.Value.STEP^[4096] (entry m' 0)), ?_, ?_⟩
  · refine (θ_run Cert.KernelIdeal.defs _ _).mono (fun r h c => ⟨(h.1 c).1.trans ?_, (h.1 c).2⟩) (Cert.KernelIdeal.Scan.run m g)
    funext i
    obtain ⟨b, t, d, rfl⟩ : ∃ (b : Fin 8) (t d : Fin 512), i = ix3 b t d := ⟨i 0, i 1, i 2, eq_ix3 i⟩
    refine (outv_real (kx c) (ka c) (kb c) (kc c) (carry_real _ _ _ kx ka kb c.val (Nat.le_of_lt c.isLt)) b t d).trans ?_
    exact ((block_at _ c _ b t d).trans (result_real ref b _ d)).symm
  · exact (θ_run Cert.ReferenceIdeal.defs _ _).mono (fun r h => h 0) (Cert.ReferenceIdeal.Value.run m' g')

end Cert.Proof

end
-- ==== Proof.lean ====
/-
  THE CERTIFICATE'S CLAIM, from its parts.
-/
module

public import proofs.«01_k».proof.Proof.Frames
public import proofs.«01_k».proof.Proof.Algebraic

@[expose] public section

noncomputable section

namespace Cert.Proof

open Idealize.ShloMosaic Idealize.SL.Sem

/-- Everything the certificate claims. The runs that state the precondition are the runs that state none. -/
theorem claim : Cert.Claim :=
  have := bounded_facts
  ⟨Cert.Kernel.Gen.facts, Cert.KernelIdeal.Gen.facts, Cert.ReferenceIdeal.Gen.facts, bounded_facts, bounded_whole_facts,
    frame_kernel, frame_ideal, fun m ρ _ => frame_ideal m ρ trivial, frame_reference, fun m ρ _ => frame_reference m ρ trivial,
    trivial, algebraic⟩

end Cert.Proof

end
